-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Moe [hPre_routed : Cert.Pre_routed.Facts] (m : (ℓ : Loc Cert.Moe.nD Cert.Moe.τ Cert.Moe.sig) → Buf (Elt Bits) ℓ) : Prop :=
  ∀ c : Dev Cert.Moe.nD,
    (Cert.Pre_routed.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_routed : Cert.Pre_routed.Facts] (m : (ℓ : Loc Cert.MoeIdeal.nD Cert.MoeIdeal.τ Cert.MoeIdeal.sig) → Buf (Elt Ideal) ℓ) : Prop :=
  ∀ c : Dev Cert.MoeIdeal.nD,
    (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routed [hPre_routed : Cert.Pre_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Moe [hMoe : Cert.Moe.Facts] [hPre_routed : Cert.Pre_routed.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_routed [hMoeRefIdeal : Cert.MoeRefIdeal.Facts] [hPre_routed : Cert.Pre_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def preserves_Kernel_KernelIdeal : Prop :=
  IdealRules.named_const.Statement Cert.KernelIdeal.κ "zero_below" .f32 0xC3160000#32 ⊥
  ∧ IdealRules.named_const.Statement Cert.KernelIdeal.κ "scale" .f32 0x3E38AA3B#32 (((1 / 8) * (Real.log 2)⁻¹ : ℝ) : EReal)
  ∧ IdealRules.named_const.Statement Cert.KernelIdeal.κ "inv_ln2" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Moe_MoeIdeal : Prop :=
  True

def algebraic_MoeIdeal_MoeRefIdeal [hMoeIdeal : Cert.MoeIdeal.Facts] [hMoeRefIdeal : Cert.MoeRefIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v37) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v1) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v21) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v1) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v15) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v1)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v1) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v15) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v4_0)) (v1 : (c : Dev Cert.RouterIdeal.nD) → Buf (Elt Ideal) ((c.tc : Thread Cert.RouterIdeal.nD Cert.RouterIdeal.τ).loc Cert.RouterIdeal.main_v5)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v4_0) = v0 c
          ∧ r.2.mem ((c.tc : Thread Cert.RouterIdeal.nD Cert.RouterIdeal.τ).loc Cert.RouterIdeal.main_v5) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v13) = v0 c
          ∧ r.2.mem ((c.tc : Thread Cert.RouterRefIdeal.nD Cert.RouterRefIdeal.τ).loc Cert.RouterRefIdeal.main_v14) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeRefIdeal : Cert.MoeRefIdeal.Facts) (hSwiglu : Cert.Swiglu.Facts) (hSwigluIdeal : Cert.SwigluIdeal.Facts) (hSwigluRefIdeal : Cert.SwigluRefIdeal.Facts) (hInProj : Cert.InProj.Facts) (hInProjIdeal : Cert.InProjIdeal.Facts) (hInProjRefIdeal : Cert.InProjRefIdeal.Facts) (hKvProj : Cert.KvProj.Facts) (hKvProjIdeal : Cert.KvProjIdeal.Facts) (hKvProjRefIdeal : Cert.KvProjRefIdeal.Facts) (hQProj : Cert.QProj.Facts) (hQProjIdeal : Cert.QProjIdeal.Facts) (hQProjRefIdeal : Cert.QProjRefIdeal.Facts) (hOutProj : Cert.OutProj.Facts) (hOutProjIdeal : Cert.OutProjIdeal.Facts) (hOutProjRefIdeal : Cert.OutProjRefIdeal.Facts) (hRouter : Cert.Router.Facts) (hRouterIdeal : Cert.RouterIdeal.Facts) (hRouterRefIdeal : Cert.RouterRefIdeal.Facts) (hFinal : Cert.Final.Facts) (hFinalIdeal : Cert.FinalIdeal.Facts) (hFinalRefIdeal : Cert.FinalRefIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moe (hMoe := hMoe) (hPre_routed := hPre_routed)
    ∧ quiescent_MoeIdeal (hMoeIdeal := hMoeIdeal) (hPre_routed := hPre_routed)
    ∧ quiescent_MoeRefIdeal (hMoeRefIdeal := hMoeRefIdeal)
    ∧ quiescent_MoeRefIdeal_pre_routed (hMoeRefIdeal := hMoeRefIdeal) (hPre_routed := hPre_routed)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_InProj (hInProj := hInProj)
    ∧ quiescent_InProjIdeal (hInProjIdeal := hInProjIdeal)
    ∧ quiescent_InProjRefIdeal (hInProjRefIdeal := hInProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_QProj (hQProj := hQProj)
    ∧ quiescent_QProjIdeal (hQProjIdeal := hQProjIdeal)
    ∧ quiescent_QProjRefIdeal (hQProjRefIdeal := hQProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Router (hRouter := hRouter)
    ∧ quiescent_RouterIdeal (hRouterIdeal := hRouterIdeal)
    ∧ quiescent_RouterRefIdeal (hRouterRefIdeal := hRouterRefIdeal)
    ∧ quiescent_Final (hFinal := hFinal)
    ∧ quiescent_FinalIdeal (hFinalIdeal := hFinalIdeal)
    ∧ quiescent_FinalRefIdeal (hFinalRefIdeal := hFinalRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moe_MoeIdeal
    ∧ algebraic_MoeIdeal_MoeRefIdeal (hMoeIdeal := hMoeIdeal) (hMoeRefIdeal := hMoeRefIdeal) (hPre_routed := hPre_routed)
    ∧ preserves_Swiglu_SwigluIdeal
    ∧ algebraic_SwigluIdeal_SwigluRefIdeal (hSwigluIdeal := hSwigluIdeal) (hSwigluRefIdeal := hSwigluRefIdeal)
    ∧ preserves_InProj_InProjIdeal
    ∧ algebraic_InProjIdeal_InProjRefIdeal (hInProjIdeal := hInProjIdeal) (hInProjRefIdeal := hInProjRefIdeal)
    ∧ preserves_KvProj_KvProjIdeal
    ∧ algebraic_KvProjIdeal_KvProjRefIdeal (hKvProjIdeal := hKvProjIdeal) (hKvProjRefIdeal := hKvProjRefIdeal)
    ∧ preserves_QProj_QProjIdeal
    ∧ algebraic_QProjIdeal_QProjRefIdeal (hQProjIdeal := hQProjIdeal) (hQProjRefIdeal := hQProjRefIdeal)
    ∧ preserves_OutProj_OutProjIdeal
    ∧ algebraic_OutProjIdeal_OutProjRefIdeal (hOutProjIdeal := hOutProjIdeal) (hOutProjRefIdeal := hOutProjRefIdeal)
    ∧ preserves_Router_RouterIdeal
    ∧ algebraic_RouterIdeal_RouterRefIdeal (hRouterIdeal := hRouterIdeal) (hRouterRefIdeal := hRouterRefIdeal)
    ∧ preserves_Final_FinalIdeal
    ∧ algebraic_FinalIdeal_FinalRefIdeal (hFinalIdeal := hFinalIdeal) (hFinalRefIdeal := hFinalRefIdeal)
-- ==== Pre_finite.lean ====
abbrev S16384x1024 : Shape := ⟨2, ![16384, 1024]⟩
abbrev S16384x2048 : Shape := ⟨2, ![16384, 2048]⟩
abbrev S_ : Shape := ⟨0, ![]⟩

class Facts : Prop where
  bitsLt_bf16_f32 : FTy.bits .bf16 < FTy.bits .f32
  slices_S16384x2048_S16384x1024_0_0 : S16384x2048.Slices ![0, 0] S16384x1024
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .bf16) (main_arg1 : FVec F S16384x2048 .bf16) : IVec S_ 1 :=
  let main_v0 : FVec F S16384x2048 .f32 := (extf .f32 · bitsLt_bf16_f32) main_arg1
  let main_v1 : FVec F S16384x1024 .f32 := (extractStridedSlice S16384x1024 ![0, 0] · slices_S16384x2048_S16384x1024_0_0) main_v0
  let main_v2 : FVec F S16384x1024 .f32 := (extf .f32 · bitsLt_bf16_f32) main_arg0
  let main_v3 : FVec F S16384x1024 .f32 := Host.absf main_v2
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  let main_c : IVec S_ 1 := constantI S_ 1 1#1
  let main_v6 : IVec S_ 1 := (fun x v => Host.reduce IntOp.andi x v reducesTo_S16384x1024_S_d0_1 h_S_) main_v5 main_c
  let main_v7 : FVec F S16384x1024 .f32 := Host.absf main_v1
  let main_cst_0 : FVec F S_ .f32 := constant S_ .f32 0x7F800000#32
  let main_v8 : FVec F S16384x1024 .f32 := broadcastInDim S16384x1024 ![] bcast_S_S16384x1024 main_cst_0
  let main_v9 : IVec S16384x1024 1 := cmpf .olt main_v7 main_v8
  let main_c_1 : IVec S_ 1 := constantI S_ 1 1#1
  let main_v10 : IVec S_ 1 := (fun x v => Host.reduce IntOp.andi x v reducesTo_S16384x1024_S_d0_1 h_S_) main_v9 main_c_1
  let main_v11 : IVec S_ 1 := andi main_v6 main_v10
  main_v11
-- ==== Pre_routed.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S72 32) (main_arg1 : IVec S1 32) (main_arg2 : FVec F S36864x1024 .bf16) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg0 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S16384x1024 : Shape := ⟨2, ![16384, 1024]⟩
abbrev S16384x2048 : Shape := ⟨2, ![16384, 2048]⟩
abbrev S256x128 : Shape := ⟨2, ![256, 128]⟩
abbrev S8192x128 : Shape := ⟨2, ![8192, 128]⟩
abbrev S2x256x128 : Shape := ⟨3, ![2, 256, 128]⟩
abbrev S2x256x1 : Shape := ⟨3, ![2, 256, 1]⟩
abbrev S256x256 : Shape := ⟨2, ![256, 256]⟩
abbrev S1x256x1 : Shape := ⟨3, ![1, 256, 1]⟩
abbrev S256x1 : Shape := ⟨2, ![256, 1]⟩
abbrev S1x256x128 : Shape := ⟨3, ![1, 256, 128]⟩
abbrev S256 : Shape := ⟨1, ![256]⟩
abbrev S1 : Shape := ⟨1, ![1]⟩
abbrev S1x1x1 : Shape := ⟨3, ![1, 1, 1]⟩

abbrev nBuf : Space → Nat
  | .hbm => 3
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .vmem, ⟨9, _⟩ => ⟨S2x256x1, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def k0_mult1 (arg9 : BitVec 32) : BitVec 32 :=
  let c256_i32_26 : BitVec 32 := 256#32
  let v55 : BitVec 32 := Scalar.muli arg9 c256_i32_26
  v55

def k0_off1 (arg9 : BitVec 32) : Fin 2 → Nat :=
  let c256_i32_26 : BitVec 32 := 256#32
  let v55 : BitVec 32 := Scalar.muli arg9 c256_i32_26
  let v56 : BitVec 32 := v55
  let v57 : Index := Scalar.indexCast v56
  let c0_27 : Index := 0#32
  ![v57.toNat, 0]

def k0_chk1 (arg9 : BitVec 32) : Prop :=
  (256 ∣ (k0_mult1 arg9).toNat) ∧
  (∀ a, (k0_off1 arg9) a + S256x128.size a ≤ S8192x128.size a)
theorem k0_mult1_dvd : ∀ (arg9 : BitVec 32) (k0_hw1 : k0_chk1 arg9), 256 ∣ (k0_mult1 arg9).toNat := fun arg9 k0_hw1 => k0_hw1.1
theorem k0_off1_inb : ∀ (arg9 : BitVec 32) (k0_hw1 : k0_chk1 arg9), ∀ a, (k0_off1 arg9) a + S256x128.size a ≤ S8192x128.size a := fun arg9 k0_hw1 => k0_hw1.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "inv_ln2" => some (((Real.log 2)⁻¹ : ℝ) : EReal)
  | "scale" => some (((1 / 8) * (Real.log 2)⁻¹ : ℝ) : EReal)
  | "zero_below" => some ⊥
  | _ => none
-- ==== ReferenceIdeal.lean ====
abbrev S16384x1024 : Shape := ⟨2, ![16384, 1024]⟩
abbrev S16384x2048 : Shape := ⟨2, ![16384, 2048]⟩
abbrev S2x8192x16x64 : Shape := ⟨4, ![2, 8192, 16, 64]⟩
abbrev S2x8192x2048 : Shape := ⟨3, ![2, 8192, 2048]⟩
abbrev S2x8192x1024 : Shape := ⟨3, ![2, 8192, 1024]⟩
abbrev S2x16x8192x8192 : Shape := ⟨4, ![2, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x64x8192 : Shape := ⟨4, ![2, 16, 64, 8192]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x1024, .f32⟩
  | .hbm, ⟨3, _⟩ => ⟨S2x8192x16x64, .f32⟩
  | .hbm, ⟨4, _⟩ => ⟨S16384x2048, .f32⟩
  | .hbm, ⟨5, _⟩ => ⟨S2x8192x2048, .f32⟩
  | .hbm, ⟨6, _⟩ => ⟨S2x8192x1024, .f32⟩
  | .hbm, ⟨7, _⟩ => ⟨S2x8192x1024, .f32⟩
  | .hbm, ⟨8, _⟩ => ⟨S2x8192x16x64, .f32⟩
  | .hbm, ⟨9, _⟩ => ⟨S2x8192x16x64, .f32⟩
  | .hbm, ⟨10, _⟩ => ⟨S2x16x8192x8192, .f32⟩
  | .hbm, ⟨11, _⟩ => ⟨S_, .f32⟩
  | .hbm, ⟨12, _⟩ => ⟨S2x16x8192x8192, .f32⟩
  | .hbm, ⟨13, _⟩ => ⟨S2x16x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S2x16x8192x8192, .f32⟩
  | .hbm, ⟨21, _⟩ => ⟨S_, .f32⟩
  | .hbm, ⟨22, _⟩ => ⟨S2x16x8192x8192, .f32⟩
  | .hbm, ⟨23, _⟩ => ⟨S2x16x8192x8192, .f32⟩
  | .hbm, ⟨24, _⟩ => ⟨S2x16x8192x8192, .f32⟩
  | .hbm, ⟨25, _⟩ => ⟨S2x16x8192x8192, .f32⟩
  | .hbm, ⟨26, _⟩ => ⟨S2x16x8192x8192, .i1⟩
  | .hbm, ⟨27, _⟩ => ⟨S2x16x8192x8192, .f32⟩
  | .hbm, ⟨28, _⟩ => ⟨S2x16x8192x8192, .f32⟩
  | .hbm, ⟨29, _⟩ => ⟨S2x16x8192x8192, .f32⟩
  | .hbm, ⟨30, _⟩ => ⟨S2x16x8192x8192, .f32⟩
  | .hbm, ⟨31, _⟩ => ⟨S2x16x8192x8192, .f32⟩
  | .hbm, ⟨32, _⟩ => ⟨S2x16x8192x8192, .f32⟩
  | .hbm, ⟨33, _⟩ => ⟨S2x16x8192x8192, .f32⟩
  | .hbm, ⟨34, _⟩ => ⟨S2x16x8192x8192, .f32⟩
  | .hbm, ⟨35, _⟩ => ⟨S2x16x8192x8192, .f32⟩
  | .hbm, ⟨36, _⟩ => ⟨S2x16x8192x8192, .f32⟩
  | .hbm, ⟨37, _⟩ => ⟨S_, .f32⟩
  | .hbm, ⟨38, _⟩ => ⟨S_, .f32⟩
  | .hbm, ⟨39, _⟩ => ⟨S2x16x8192x8192, .i1⟩
  | .hbm, ⟨40, _⟩ => ⟨S2x16x8192x8192, .f32⟩
  | .hbm, ⟨41, _⟩ => ⟨S2x16x8192x8192, .f32⟩
  | .hbm, ⟨42, _⟩ => ⟨S_, .f32⟩
  | .hbm, ⟨43, _⟩ => ⟨S_, .f32⟩
  | .hbm, ⟨44, _⟩ => ⟨S2x16x8192x8192, .f32⟩
  | .hbm, ⟨45, _⟩ => ⟨S2x16x8192x8192, .f32⟩
  | .hbm, ⟨46, _⟩ => ⟨S2x16x8192x8192, .f32⟩
  | .hbm, ⟨47, _⟩ => ⟨S_, .f32⟩
  | .hbm, ⟨48, _⟩ => ⟨S_, .f32⟩
  | .hbm, ⟨49, _⟩ => ⟨S2x16x8192x8192, .i1⟩
  | .hbm, ⟨50, _⟩ => ⟨S2x16x8192x8192, .f32⟩
  | .hbm, ⟨51, _⟩ => ⟨S2x16x8192x8192, .f32⟩
  | .hbm, ⟨52, _⟩ => ⟨S2x16x8192x8192, .f32⟩
  | .hbm, ⟨53, _⟩ => ⟨S_, .f32⟩
  | .hbm, ⟨54, _⟩ => ⟨S_, .f32⟩
  | .hbm, ⟨55, _⟩ => ⟨S2x16x8192x8192, .i1⟩
  | .hbm, ⟨56, _⟩ => ⟨S2x16x8192x8192, .f32⟩
  | .hbm, ⟨57, _⟩ => ⟨S2x16x8192x8192, .f32⟩
  | .hbm, ⟨58, _⟩ => ⟨S2x16x64x8192, .f32⟩
  | .hbm, ⟨59, _⟩ => ⟨S2x8192x16x64, .f32⟩
  | .hbm, ⟨60, _⟩ => ⟨S16384x1024, .f32⟩
  | .hbm, ⟨61, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v23 : Ref sig .tc := ⟨.hbm, 51, rfl⟩
abbrev main_v24 : Ref sig .tc := ⟨.hbm, 52, rfl⟩
abbrev main_cst_2 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩

abbrev nD : Nat := 1
abbrev τ : Topo := Topo.v7x

variable {F : FTy → Type} [FloatOps F]
-- ==== Moe.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x896 : Shape := ⟨3, ![1, 1024, 896]⟩
abbrev S1x896x1024 : Shape := ⟨3, ![1, 896, 1024]⟩
abbrev S1024x896 : Shape := ⟨2, ![1024, 896]⟩
abbrev S512x896 : Shape := ⟨2, ![512, 896]⟩
abbrev S896x1024 : Shape := ⟨2, ![896, 1024]⟩

abbrev nBuf : Space → Nat
  | .hbm => 5
  | .vmem => 11
  | .smem => 2
  | _ => 0

abbrev bufTy : (tb : Table) → Fin (tcTables nBuf tb) → BufTy
  | .hbm, ⟨0, _⟩ => ⟨S36864x1024, .bf16⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S36864x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1x896x1024, .bf16⟩
  | .local _ .vmem, ⟨7, _⟩ => ⟨S1x896x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S72, .i32⟩
  | .local _ .smem, ⟨1, _⟩ => ⟨S1, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond4 (i : grid0.Coords) : BitVec 1 :=
  let arg1 : BitVec 32 := BitVec.ofNat 32 (i 1).val
  let c3_i32_21 : BitVec 32 := 3#32
  let v35 : BitVec 1 := Scalar.cmpi .eq arg1 c3_i32_21
  let v36 : BitVec 32 := Scalar.extui v35
  let c0_i32_22 : BitVec 32 := 0#32
  let v37 : BitVec 1 := Scalar.cmpi .ne v36 c0_i32_22
  v37

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c3_i32 : BitVec 32 := 3#32
  let v5 : BitVec 1 := Scalar.cmpi .eq arg1 c3_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x896x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S72x512x1024 : Shape := ⟨3, ![72, 512, 1024]⟩
abbrev S_ : Shape := ⟨0, ![]⟩
abbrev S72x1 : Shape := ⟨2, ![72, 1]⟩
abbrev S72x1024x3584 : Shape := ⟨3, ![72, 1024, 3584]⟩
abbrev S72x512x3584 : Shape := ⟨3, ![72, 512, 3584]⟩
abbrev S72x3584x1024 : Shape := ⟨3, ![72, 3584, 1024]⟩
abbrev S72x1x1 : Shape := ⟨3, ![72, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x1024, .bf16⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S36864x1024, .f32⟩
  | .hbm, ⟨7, _⟩ => ⟨S72x512x1024, .f32⟩
  | .hbm, ⟨8, _⟩ => ⟨S_, .i32⟩
  | .hbm, ⟨9, _⟩ => ⟨S72, .i32⟩
  | .hbm, ⟨10, _⟩ => ⟨S72, .i1⟩
  | .hbm, ⟨11, _⟩ => ⟨S_, .i32⟩
  | .hbm, ⟨12, _⟩ => ⟨S72, .i32⟩
  | .hbm, ⟨13, _⟩ => ⟨S72, .i32⟩
  | .hbm, ⟨14, _⟩ => ⟨S72, .i32⟩
  | .hbm, ⟨15, _⟩ => ⟨S72x1, .i32⟩
  | .hbm, ⟨16, _⟩ => ⟨S72x1024x3584, .bf16⟩
  | .hbm, ⟨17, _⟩ => ⟨S72x1024x3584, .f32⟩
  | .hbm, ⟨18, _⟩ => ⟨S72x512x3584, .f32⟩
  | .hbm, ⟨19, _⟩ => ⟨S_, .i32⟩
  | .hbm, ⟨20, _⟩ => ⟨S72, .i32⟩
  | .hbm, ⟨21, _⟩ => ⟨S72, .i1⟩
  | .hbm, ⟨22, _⟩ => ⟨S_, .i32⟩
  | .hbm, ⟨23, _⟩ => ⟨S72, .i32⟩
  | .hbm, ⟨24, _⟩ => ⟨S72, .i32⟩
  | .hbm, ⟨25, _⟩ => ⟨S72, .i32⟩
  | .hbm, ⟨26, _⟩ => ⟨S72x1, .i32⟩
  | .hbm, ⟨27, _⟩ => ⟨S72x1024x3584, .bf16⟩
  | .hbm, ⟨28, _⟩ => ⟨S72x1024x3584, .f32⟩
  | .hbm, ⟨29, _⟩ => ⟨S72x512x3584, .f32⟩
  | .hbm, ⟨30, _⟩ => ⟨S72x512x3584, .f32⟩
  | .hbm, ⟨31, _⟩ => ⟨S72x512x3584, .f32⟩
  | .hbm, ⟨32, _⟩ => ⟨S_, .f32⟩
  | .hbm, ⟨33, _⟩ => ⟨S72x512x3584, .f32⟩
  | .hbm, ⟨34, _⟩ => ⟨S72x512x3584, .f32⟩
  | .hbm, ⟨35, _⟩ => ⟨S_, .f32⟩
  | .hbm, ⟨36, _⟩ => ⟨S72x512x3584, .f32⟩
  | .hbm, ⟨37, _⟩ => ⟨S72x512x3584, .f32⟩
  | .hbm, ⟨38, _⟩ => ⟨S72x512x3584, .f32⟩
  | .hbm, ⟨39, _⟩ => ⟨S72x512x3584, .f32⟩
  | .hbm, ⟨40, _⟩ => ⟨S_, .i32⟩
  | .hbm, ⟨41, _⟩ => ⟨S72, .i32⟩
  | .hbm, ⟨42, _⟩ => ⟨S72, .i1⟩
  | .hbm, ⟨43, _⟩ => ⟨S_, .i32⟩
  | .hbm, ⟨44, _⟩ => ⟨S72, .i32⟩
  | .hbm, ⟨45, _⟩ => ⟨S72, .i32⟩
  | .hbm, ⟨46, _⟩ => ⟨S72, .i32⟩
  | .hbm, ⟨47, _⟩ => ⟨S72x1, .i32⟩
  | .hbm, ⟨48, _⟩ => ⟨S72x3584x1024, .bf16⟩
  | .hbm, ⟨49, _⟩ => ⟨S72x3584x1024, .f32⟩
  | .hbm, ⟨50, _⟩ => ⟨S72x512x1024, .f32⟩
  | .hbm, ⟨51, _⟩ => ⟨S72, .i32⟩
  | .hbm, ⟨52, _⟩ => ⟨S_, .i32⟩
  | .hbm, ⟨53, _⟩ => ⟨S72, .i32⟩
  | .hbm, ⟨54, _⟩ => ⟨S72, .i1⟩
  | .hbm, ⟨55, _⟩ => ⟨S72x1x1, .i1⟩
  | .hbm, ⟨56, _⟩ => ⟨S_, .f32⟩
  | .hbm, ⟨57, _⟩ => ⟨S_, .f32⟩
  | .hbm, ⟨58, _⟩ => ⟨S72x512x1024, .i1⟩
  | .hbm, ⟨59, _⟩ => ⟨S72x512x1024, .f32⟩
  | .hbm, ⟨60, _⟩ => ⟨S72x512x1024, .f32⟩
  | .hbm, ⟨61, _⟩ => ⟨S36864x1024, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Swiglu.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v25 : BitVec 1 := Scalar.cmpi .eq arg1 c1_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== SwigluRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x5632, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S2816x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S16384x4096 : Shape := ⟨2, ![16384, 4096]⟩
abbrev S1024x1024 : Shape := ⟨2, ![1024, 1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .bf16⟩
  | .hbm, ⟨3, _⟩ => ⟨S1x1024, .f32⟩
  | .hbm, ⟨4, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x4096, .f32⟩
  | .hbm, ⟨20, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KvProj.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S16384x2048 : Shape := ⟨2, ![16384, 2048]⟩
abbrev S1024x1024 : Shape := ⟨2, ![1024, 1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .bf16⟩
  | .hbm, ⟨3, _⟩ => ⟨S1x1024, .f32⟩
  | .hbm, ⟨4, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvProjIdeal.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S16384x2048 : Shape := ⟨2, ![16384, 2048]⟩
abbrev S1024x1024 : Shape := ⟨2, ![1024, 1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .bf16⟩
  | .hbm, ⟨3, _⟩ => ⟨S1x1024, .f32⟩
  | .hbm, ⟨4, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvProjRefIdeal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x2048, .f32⟩
  | .hbm, ⟨20, _⟩ => ⟨S16384x2048, .f32⟩
  | .hbm, ⟨21, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== QProj.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .bf16⟩
  | .hbm, ⟨3, _⟩ => ⟨S1x1024, .f32⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QProjRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutProj.lean ====
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Router.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S16384x128 : Shape := ⟨2, ![16384, 128]⟩
abbrev S1024x1024 : Shape := ⟨2, ![1024, 1024]⟩
abbrev S1024x1 : Shape := ⟨2, ![1024, 1]⟩
abbrev S16384x8 : Shape := ⟨2, ![16384, 8]⟩

abbrev nBuf : Space → Nat
  | .hbm => 12
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S_, .f32⟩
  | .hbm, ⟨4, _⟩ => ⟨S1024x128, .f32⟩
  | .hbm, ⟨5, _⟩ => ⟨S_, .i32⟩
  | .hbm, ⟨6, _⟩ => ⟨S1, .i32⟩
  | .hbm, ⟨7, _⟩ => ⟨S1024x128, .f32⟩
  | .hbm, ⟨8, _⟩ => ⟨S1x1024, .f32⟩
  | .hbm, ⟨9, _⟩ => ⟨S16384x1024, .bf16⟩
  | .hbm, ⟨10, _⟩ => ⟨S16384x128, .f32⟩
  | .hbm, ⟨11, _⟩ => ⟨S16384x8, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x1024, .bf16⟩
  | .local _ .vmem, ⟨5, _⟩ => ⟨S1024x1024, .bf16⟩
  | .local _ .vmem, ⟨6, _⟩ => ⟨S1024x128, .f32⟩
  | .local _ .vmem, ⟨7, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterRefIdeal.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x8, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Final.lean ====
abbrev S2x8192x1024 : Shape := ⟨3, ![2, 8192, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S2x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x8192x1024, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x1024, .f32⟩
  | .hbm, ⟨14, _⟩ => ⟨S2x8192x1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Stick.KernelIdeal.Loop.lean ====
/-
  The stick-breaking attention kernel `KernelIdeal`: what its key-block loop computes, and the triple of the loop's label.

  At a grid point the body holds 256 queries of a pair of heads, the two heads' whole keys and values, and two scratch
  buffers: the heads' weighted sums (`arg7`) and the heads' running sums of log-remainders (`arg8`). It walks the key blocks
  from the queries' own block down to block 0, and stops early when no running sum exceeds a bound. `loopF k mx acc rem` is
  the walk with `k` blocks left, a plain recursion on the two scratch contents; `spec_le` says the printed loop, entered at
  variant `k`, leaves exactly that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Stick.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's label is entered at variants that are plain numbers: the key blocks left to visit. -/
abbrev 𝒱₀ : Variants := Variants.nat

/-- The bound a running sum must exceed for the walk to go on. -/
def stopBelow : F .f32 := Named.named κ "zero_below" 0xC3160000#32

/-- The 256 rows of the keys or of the values that block `a` names. -/
def blockOf (x : Vec F S8192x128 .bf16) (a : BitVec 32) (h : k0_chk1 a) : Vec F S256x128 .bf16 :=
  VecWindow.window x (k0_off1 a) S256x128.size (k0_off1_inb a h)

/-- Head 0's and head 1's weighted sums. -/
def acc0 (acc : Vec F S2x256x128 .f32) : Vec F S1x256x128 .f32 :=
  VecWindow.window acc ![0, 0, 0] S1x256x128.size inb_S2x256x128_S1x256x128_0_0_0
def acc1 (acc : Vec F S2x256x128 .f32) : Vec F S1x256x128 .f32 :=
  VecWindow.window acc ![1, 0, 0] S1x256x128.size inb_S2x256x128_S1x256x128_1_0_0

/-- Head 0's and head 1's running sums. -/
def rem0 (rem : Vec F S2x256x1 .f32) : Vec F S1x256x1 .f32 :=
  VecWindow.window rem ![0, 0, 0] S1x256x1.size inb_S2x256x1_S1x256x1_0_0_0
def rem1 (rem : Vec F S2x256x1 .f32) : Vec F S1x256x1 .f32 :=
  VecWindow.window rem ![1, 0, 0] S1x256x1.size inb_S2x256x1_S1x256x1_1_0_0

section Step

variable (v12 v11 : IVec S256x256 32) (v5 : Vec F S256x128 .bf16) (v18 : FVec F S256x256 .bf16) (v7 : FVec F S256x128 .bf16)
  (xk xv : Vec F S8192x128 .bf16)

/-- Head 0's new sums after the block whose keys are `kb` and values `vb`, before the store. -/
def newAcc0 (a : BitVec 32) (kb vb : Vec F S256x128 .bf16) (acc : Vec F S2x256x128 .f32) (rem : Vec F S2x256x1 .f32) : FVec F S1x256x128 .f32 :=
  k0_pay15 vb (k0_pay9 v12 v11 a) (k0_pay14 v12 v11 v5 v18 a kb (rem0 rem)) (Scalar.ofBits .f32 0x00000000#32) (acc0 acc)

/-- Head 1's new sums, -/
def newAcc1 (a : BitVec 32) (kb vb : Vec F S256x128 .bf16) (acc : Vec F S2x256x128 .f32) (rem : Vec F S2x256x1 .f32) : FVec F S1x256x128 .f32 :=
  k0_pay25 v18 vb (k0_pay9 v12 v11 a) (k0_pay19 (rem1 rem)) (k0_pay20 v7 kb) (k0_pay21 v7 kb) k0_pay22 (acc1 acc)

/-- and the two heads' new running sums. -/
def newRem0 (a : BitVec 32) (kb : Vec F S256x128 .bf16) (rem : Vec F S2x256x1 .f32) : FVec F S1x256x1 .f32 :=
  k0_pay17 (k0_pay10 (rem0 rem)) (k0_pay13 v12 v11 v5 a kb)
def newRem1 (a : BitVec 32) (kb : Vec F S256x128 .bf16) (rem : Vec F S2x256x1 .f32) : FVec F S1x256x1 .f32 :=
  k0_pay27 (k0_pay9 v12 v11 a) (k0_pay19 (rem1 rem)) (k0_pay20 v7 kb) (k0_pay21 v7 kb) k0_pay22

/-- The sums' scratch after a block. -/
def accStep (a : BitVec 32) (h : k0_chk1 a) (acc : Vec F S2x256x128 .f32) (rem : Vec F S2x256x1 .f32) : Vec F S2x256x128 .f32 :=
  VecWindow.put (VecWindow.put acc ![0, 0, 0] S1x256x128.size (newAcc0 v12 v11 v5 v18 a (blockOf xk a h) (blockOf xv a h) acc rem))
    ![1, 0, 0] S1x256x128.size (newAcc1 v12 v11 v18 v7 a (blockOf xk a h) (blockOf xv a h) acc rem)

/-- The running sums' scratch after a block. -/
def remStep (a : BitVec 32) (h : k0_chk1 a) (rem : Vec F S2x256x1 .f32) : Vec F S2x256x1 .f32 :=
  VecWindow.put (VecWindow.put rem ![0, 0, 0] S1x256x1.size (newRem0 v12 v11 v5 a (blockOf xk a h) rem))
    ![1, 0, 0] S1x256x1.size (newRem1 v12 v11 v7 a (blockOf xk a h) rem)

/-- The largest running sum after a block. -/
def mxStep (a : BitVec 32) (h : k0_chk1 a) (rem : Vec F S2x256x1 .f32) : F .f32 :=
  k0_pay28 (k0_pay9 v12 v11 a) (k0_pay18 (k0_pay10 (rem0 rem)) (k0_pay13 v12 v11 v5 a (blockOf xk a h)))
    (k0_pay19 (rem1 rem)) (k0_pay20 v7 (blockOf xk a h)) (k0_pay21 v7 (blockOf xk a h)) k0_pay22

/-- The walk with `k` blocks left (blocks `k - 1` down to 0), the largest running sum `mx`. -/
def loopF : ℕ → F .f32 → Vec F S2x256x128 .f32 → Vec F S2x256x1 .f32 → Vec F S2x256x128 .f32 × Vec F S2x256x1 .f32
  | 0, _, acc, rem => (acc, rem)
  | k + 1, mx, acc, rem =>
    if h : k0_chk1 (BitVec.ofNat 32 k) then
      if Scalar.andi (Scalar.cmpi .sge (BitVec.ofNat 32 k) 0#32) (Scalar.cmpf .ogt mx stopBelow) = 1#1 then
        loopF k (mxStep v12 v11 v5 v7 xk (BitVec.ofNat 32 k) h rem)
          (accStep v12 v11 v5 v18 v7 xk xv (BitVec.ofNat 32 k) h acc rem) (remStep v12 v11 v5 v7 xk (BitVec.ofNat 32 k) h rem)
      else (acc, rem)
    else (acc, rem)

end Step

/-- Every block of the 32 lies inside the keys. -/
theorem chk_ofNat : ∀ k : Fin 32, k0_chk1 (BitVec.ofNat 32 k.val) := by decide

/-- One block before block `k + 1` is block `k`. -/
theorem sub_one (k : ℕ) (hk : k < 32) : Scalar.subi (BitVec.ofNat 32 (k + 1)) 1#32 = BitVec.ofNat 32 k :=
  (by decide : ∀ k : Fin 32, Scalar.subi (BitVec.ofNat 32 (k.val + 1)) 1#32 = BitVec.ofNat 32 k.val) ⟨k, hk⟩

/-- Past block 0 the walk's test fails, whatever the running sums. -/
theorem test_end (b : BitVec 1) : ¬ Scalar.andi (Scalar.cmpi .sge (Scalar.subi (BitVec.ofNat 32 0) 1#32) 0#32) b = 1#1 := by
  revert b; decide

section Label

variable (c : Dev nD) (arg4 : Memref sig .tc .vmem S8192x128 .bf16) (harg4 : arg4.IsWhole)
  (arg5 : Memref sig .tc .vmem S8192x128 .bf16) (harg5 : arg5.IsWhole)
  (arg8 : Memref sig .tc .vmem S2x256x1 .f32) (harg8 : arg8.IsWhole)
  (arg7 : Memref sig .tc .vmem S2x256x128 .f32) (harg7 : arg7.IsWhole)

/-- The four buffers the loop touches, owned at what they read. -/
def held (xk xv : Vec F S8192x128 .bf16) (acc : Vec F S2x256x128 .f32) (rem : Vec F S2x256x1 .f32) : sProp 𝕄 :=
  iprop(owns (c : Thread nD τ) arg4 fullShare xk ∗ owns (c : Thread nD τ) arg5 fullShare xv
    ∗ owns (c : Thread nD τ) arg7 fullShare acc ∗ owns (c : Thread nD τ) arg8 fullShare rem)

/-- The loop's specification: from the scratches at `acc` and `rem` it returns some pair, the scratches at `R`. -/
def spec (xk xv : Vec F S8192x128 .bf16) (acc : Vec F S2x256x128 .f32) (rem : Vec F S2x256x1 .f32)
    (R : Vec F S2x256x128 .f32 × Vec F S2x256x1 .f32) : sWPT 𝕄 (BitVec 32 × F .f32) := do
  sWPT.consume (held c arg4 arg5 arg8 arg7 xk xv acc rem)
  let r ← sWPT.arbitrary
  sWPT.produce (held c arg4 arg5 arg8 arg7 xk xv R.1 R.2)
  pure r

theorem spec_apply (xk xv : Vec F S8192x128 .bf16) (acc : Vec F S2x256x128 .f32) (rem : Vec F S2x256x1 .f32)
    (R : Vec F S2x256x128 .f32 × Vec F S2x256x1 .f32) (K : BitVec 32 × F .f32 → sProp 𝕄) :
    spec c arg4 arg5 arg8 arg7 xk xv acc rem R K
      = iprop(held c arg4 arg5 arg8 arg7 xk xv acc rem
          ∗ ∀ r : BitVec 32 × F .f32, (held c arg4 arg5 arg8 arg7 xk xv R.1 R.2 -∗ K r)) := rfl

set_option maxHeartbeats 2000000 in
/-- The printed loop with `k` blocks left computes `loopF k`. -/
theorem spec_le (i : grid0.Coords) (v12 v11 : IVec S256x256 32) (v5 : Vec F S256x128 .bf16) (v18 : FVec F S256x256 .bf16)
    (v7 : FVec F S256x128 .bf16) (E : Set ℕ) :
    ∀ k, k ≤ 32 → ∀ (mx : F .f32) (xk xv : Vec F S8192x128 .bf16) (acc : Vec F S2x256x128 .f32) (rem : Vec F S2x256x1 .f32) K,
      spec c arg4 arg5 arg8 arg7 xk xv acc rem (loopF v12 v11 v5 v18 v7 xk xv k mx acc rem) K
      ⊢ wp frame (wpE (defs₀ (F := F)) 𝒱₀ (c : Thread nD τ) (some k)) E
          (defs₀ (F := F) .tc 1 ⟨i, arg4, harg4, arg5, harg5, v12, v11, arg8, harg8, v5, v18, arg7, harg7, v7,
            Scalar.subi (BitVec.ofNat 32 k) 1#32, mx⟩) K := by
  intro k
  induction k with
  | zero =>
    intro _ mx xk xv acc rem K
    rw [spec_apply]
    show _ ⊢ wp frame (wpE (defs₀ (F := F)) 𝒱₀ (c : Thread nD τ) (some 0)) E
      (cc0_while1 i arg4 harg4 arg5 harg5 v12 v11 arg8 harg8 v5 v18 arg7 harg7 v7 (Scalar.subi (BitVec.ofNat 32 0) 1#32) mx) K
    simp only [cc0_while1_eq_skeleton]; unfold cc0_while1_skel
    simp only [test_end, ↓reduceIte, Prog.pure_eq_ret]
    iintro ⟨H, Hk⟩
    rw [wp_ret]; imodintro
    iapply Hk
    simp only [loopF]; iexact H
  | succ k ih =>
    intro hk mx xk xv acc rem K
    have hchk := chk_ofNat ⟨k, by omega⟩
    rw [spec_apply, sub_one k (by omega)]
    show _ ⊢ wp frame (wpE (defs₀ (F := F)) 𝒱₀ (c : Thread nD τ) (some (k + 1))) E
      (cc0_while1 i arg4 harg4 arg5 harg5 v12 v11 arg8 harg8 v5 v18 arg7 harg7 v7 (BitVec.ofNat 32 k) mx) K
    simp only [cc0_while1_eq_skeleton]; unfold cc0_while1_skel
    by_cases htest : Scalar.andi (Scalar.cmpi .sge (BitVec.ofNat 32 k) 0#32) (Scalar.cmpf .ogt mx stopBelow) = 1#1
    · have hl : loopF v12 v11 v5 v18 v7 xk xv (k + 1) mx acc rem
          = loopF v12 v11 v5 v18 v7 xk xv k (mxStep v12 v11 v5 v7 xk (BitVec.ofNat 32 k) hchk rem)
          (accStep v12 v11 v5 v18 v7 xk xv (BitVec.ofNat 32 k) hchk acc rem) (remStep v12 v11 v5 v7 xk (BitVec.ofNat 32 k) hchk rem) := by
        rw [loopF, dif_pos hchk, if_pos htest]
      rw [hl]
      unfold stopBelow at htest
      simp only [htest, ↓reduceIte]
      unfold held owns
      iintro ⟨⟨⟨%f4, %hf4, H4⟩, ⟨%f5, %hf5, H5⟩, ⟨%f7, %hf7, H7⟩, ⟨%f8, %hf8, H8⟩⟩, Hk⟩
      subst hf4 hf5 hf7 hf8
      sl_exec (disch := sl_exact hchk)
      iapply (wp_call_spec 𝒱₀ (c : Thread nD τ) (some (k + 1)) E
        (spec c arg4 arg5 arg8 arg7 (arg4.view.read (Elt F) f4) (arg5.view.read (Elt F) f5) _ _ _) k
        (fun u hu => by cases hu; exact Nat.lt_succ_self k)
        (ih (by omega) (mxStep v12 v11 v5 v7 (arg4.view.read (Elt F) f4) (BitVec.ofNat 32 k) hchk (arg8.view.read (Elt F) f8)) (arg4.view.read (Elt F) f4) (arg5.view.read (Elt F) f5)
          (accStep v12 v11 v5 v18 v7 (arg4.view.read (Elt F) f4) (arg5.view.read (Elt F) f5) (BitVec.ofNat 32 k) hchk (arg7.view.read (Elt F) f7) (arg8.view.read (Elt F) f8))
          (remStep v12 v11 v5 v7 (arg4.view.read (Elt F) f4) (BitVec.ofNat 32 k) hchk (arg8.view.read (Elt F) f8))))
      rw [spec_apply]; unfold held
      isplitl [H4 H5 H7 H8]
      · isplitl [H4]; · iapply (owns_intro (c : Thread nD τ) arg4 fullShare f4); iexact H4
        isplitl [H5]; · iapply (owns_intro (c : Thread nD τ) arg5 fullShare f5); iexact H5
        isplitl [H7]
        · unfold owns; iexists _; isplitr
          swap; · iexact H7
          ipureintro
          rw [View.read_writes_cons_put _ _ _ _ _ rfl, View.read_writes_cons_put _ _ _ _ _ rfl, View.writes_nil]; rfl
        · unfold owns; iexists _; isplitr
          swap; · iexact H8
          ipureintro
          rw [View.read_writes_cons_put _ _ _ _ _ rfl, View.read_writes_cons_put _ _ _ _ _ rfl, View.writes_nil]; rfl
      unfold owns
      iintro %r H
      sl_step
      iapply Hk
      iexact H
    · have hl : loopF v12 v11 v5 v18 v7 xk xv (k + 1) mx acc rem = (acc, rem) := by
        rw [loopF, dif_pos hchk, if_neg htest]
      rw [hl]
      unfold stopBelow at htest
      simp only [htest, ↓reduceIte, Prog.pure_eq_ret]
      iintro ⟨H, Hk⟩
      rw [wp_ret]; imodintro
      iapply Hk
      iexact H

end Label

end Cert.Proof.Stick.KernelIdeal

end
-- ==== Proof.Stick.KernelIdeal.Frame.lean ====
/-
  The stick-breaking attention kernel `KernelIdeal`: the body's triple at a grid point, the pipeline's proof data, and the frame —
  every run terminates with the argument arrays unchanged and every semaphore counter at zero. What the output array holds
  is stated through `outF`, the body's output block as a function of the three input blocks.
-/
module

public import proofs.«01_k».proof.Proof.Stick.KernelIdeal.Loop

@[expose] public section

set_option maxRecDepth 16384

noncomputable section

namespace Cert.Proof.Stick.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The body -/

/-- The queries as the body loads them: the whole block. -/
def qBlk (x0 : Vec F S256x128 .bf16) : Vec F S256x128 .bf16 :=
  VecWindow.window x0 ![0, 0] S256x128.size inb_S256x128_S256x128_0_0

/-- The walk of a grid point, from zeroed scratches: every block from the queries' own down to block 0. -/
def walk (i : grid0.Coords) (x0 : Vec F S256x128 .bf16) (xk xv : Vec F S8192x128 .bf16) : Vec F S2x256x128 .f32 × Vec F S2x256x1 .f32 :=
  loopF (iota .tc S256x256 32 [1] iota_S256x256_d1_w32) (k0_pay5 i) (k0_pay3 (qBlk x0)) k0_pay6 (k0_pay4 (qBlk x0)) xk xv
    ((i 2).val + 1) (Scalar.ofBits .f32 0x00000000#32) k0_pay7 k0_pay8

/-- The output block: lanes below 64 from head 0's sums, the others from head 1's. -/
def outF (i : grid0.Coords) (x0 : Vec F S256x128 .bf16) (xk xv : Vec F S8192x128 .bf16) : Vec F S256x128 .bf16 :=
  k0_pay1 k0_pay2 (acc0 (walk i x0 xk xv).1) (acc1 (walk i x0 xk xv).1)

/-- The body's first block: the floor division of the block's end by the block size, less one. -/
def firstWord (a : BitVec 32) : BitVec 32 :=
  let v28 := Scalar.muli (Scalar.addi a 1#32) 256#32
  let v29 := Scalar.divsi v28 256#32
  let v34 := Scalar.subi (Scalar.extui (Scalar.cmpi .sgt v28 0#32)) (Scalar.extui (Scalar.cmpi .slt v28 0#32))
  let v39 : BitVec 32 := Scalar.subi (Scalar.extui (Scalar.cmpi .sgt 256#32 0#32)) (Scalar.extui (Scalar.cmpi .slt 256#32 0#32))
  let v43 := Scalar.andi (Scalar.cmpi .ne v34 v39) (Scalar.cmpi .ne (Scalar.remsi v28 256#32) 0#32)
  Scalar.subi (Scalar.select v43 (Scalar.subi v29 1#32) v29) 1#32

theorem firstWord_eq : ∀ k : Fin 32, firstWord (BitVec.ofNat 32 k.val) = Scalar.subi (BitVec.ofNat 32 (k.val + 1)) 1#32 := by decide

set_option maxHeartbeats 2000000 in
/-- The body's triple: the three inputs' buffers as they were, the scratches at anything, the output's at `outF`. -/
theorem sound_kernel (c : Dev nD) (i : grid0.Coords) (arg3 : Memref sig .tc .vmem S256x128 .bf16) (harg3 : arg3.IsWhole)
    (arg4 : Memref sig .tc .vmem S8192x128 .bf16) (harg4 : arg4.IsWhole) (arg5 : Memref sig .tc .vmem S8192x128 .bf16) (harg5 : arg5.IsWhole)
    (arg6 : Memref sig .tc .vmem S256x128 .bf16) (harg6 : arg6.IsWhole) (arg7 : Memref sig .tc .vmem S2x256x128 .f32) (harg7 : arg7.IsWhole)
    (arg8 : Memref sig .tc .vmem S2x256x1 .f32) (harg8 : arg8.IsWhole)
    (x0 : Vec F S256x128 .bf16) (xk xv : Vec F S8192x128 .bf16) (K : PUnit → sProp 𝕄) :
    iprop(owns (c : Thread nD τ) arg3 fullShare x0 ∗ owns (c : Thread nD τ) arg4 fullShare xk ∗ owns (c : Thread nD τ) arg5 fullShare xv
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare xk ∗ owns (c : Thread nD τ) arg5 fullShare xv
          ∗ owns (c : Thread nD τ) arg6 fullShare (outF i x0 xk xv) ∗ (∃ d, owns (c : Thread nD τ) arg7 fullShare d) ∗ (∃ d, owns (c : Thread nD τ) arg8 fullShare d)) -∗ K ⟨⟩))
      ⊢ wp frame (wpE (defs₀ (F := F)) 𝒱₀ c none) Set.univ
          (cc0_stick_breaking i arg3 harg3 arg4 harg4 arg5 harg5 arg6 harg6 arg7 harg7 arg8 harg8) K := by
  simp only [cc0_stick_breaking_eq_skeleton]; unfold cc0_stick_breaking_skel
  have hi : (i 2).val < 32 := (i 2).isLt
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf3 hf4 hf5
  sl_exec
  have hT := spec_le (F := F) c arg4 harg4 arg5 harg5 arg8 harg8 arg7 harg7 i (iota .tc S256x256 32 [1] iota_S256x256_d1_w32) (k0_pay5 i)
    (k0_pay3 (qBlk (arg3.view.read (Elt F) f3))) k0_pay6 (k0_pay4 (qBlk (arg3.view.read (Elt F) f3))) Set.univ ((i 2).val + 1) (by omega)
    (Scalar.ofBits .f32 0x00000000#32) (arg4.view.read (Elt F) f4) (arg5.view.read (Elt F) f5) k0_pay7 k0_pay8
  rw [← firstWord_eq ⟨(i 2).val, hi⟩] at hT
  iapply (wp_call_spec 𝒱₀ (c : Thread nD τ) none Set.univ
    (spec c arg4 arg5 arg8 arg7 (arg4.view.read (Elt F) f4) (arg5.view.read (Elt F) f5) k0_pay7 k0_pay8
      (walk i (arg3.view.read (Elt F) f3) (arg4.view.read (Elt F) f4) (arg5.view.read (Elt F) f5)))
    ((i 2).val + 1) (fun u hu => nomatch hu) hT)
  rw [spec_apply]; unfold held
  isplitl [H4 H5 H7 H8]
  · isplitl [H4]; · iapply (owns_intro (c : Thread nD τ) arg4 fullShare f4); iexact H4
    isplitl [H5]; · iapply (owns_intro (c : Thread nD τ) arg5 fullShare f5); iexact H5
    isplitl [H7]
    · unfold owns; iexists _; isplitr
      swap; · iexact H7
      ipureintro
      exact View.read_writes_full _ _ _ _ _
    · unfold owns; iexists _; isplitr
      swap; · iexact H8
      ipureintro
      exact View.read_writes_full _ _ _ _ _
  unfold owns
  iintro %r ⟨⟨%g4, %hg4, H4⟩, ⟨%g5, %hg5, H5⟩, ⟨%g7, %hg7, H7⟩, ⟨%g8, %hg8, H8⟩⟩
  sl_exec
  sl_step
  iapply Hk
  isplitl [H3]
  · iexists f3; isplitr; · ipureintro; rfl
    iexact H3
  isplitl [H4]
  · iexists g4; isplitr; · ipureintro; exact hg4
    iexact H4
  isplitl [H5]
  · iexists g5; isplitr; · ipureintro; exact hg5
    iexact H5
  isplitl [H6]
  · iexists _; isplitr
    swap; · iexact H6
    ipureintro
    rw [View.read_writes_full]
    unfold outF; rw [← hg7]; rfl
  isplitl [H7]
  · iexists _; iexists g7; isplitr; · ipureintro; rfl
    iexact H7
  iexists _; iexists g8; isplitr; · ipureintro; rfl
  iexact H8

/-! ### The pipeline's proof data -/

/-- Core `c`'s buffers when the pipeline starts: as launched. -/
abbrev V (c : Dev nD) (b : Ref sig .tc) : Buf (Elt F) ((c : Thread nD τ).loc b) := m ((c : Thread nD τ).loc b)

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The proof data: the arrays as launched, each input's buffer at its block after every point, the output's at `outF`, the
    keys' and values' array shared between its two windows. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outF (grid0.coords t) (iblk m c 0 t) (iblk m c 1 t) (iblk m c 2 t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) :
    (dats m 0 c).after 3 t = outF (grid0.coords t) (iblk m c 0 t) (iblk m c 1 t) (iblk m c 2 t) := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- The two scratches, whole. -/
abbrev scM0 : Memref sig .tc .vmem S2x256x128 .f32 := Memref.whole cc0_scratch0
abbrev scM1 : Memref sig .tc .vmem S2x256x1 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ### The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: `sound_kernel` on the staging buffers and the scratches. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0_0, after0_1, after0_2, after0_3, PhiA_eq]
  iintro ⟨⟨⟨Hs0, Hs1⟩, Hp⟩, Ho, ⟨%d0, H0⟩, ⟨%d1, H1⟩, ⟨%d2, H2⟩, ⟨%d3, H3⟩⟩
  iapply (sound_kernel c (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [Hs0]; · iexact Hs0
  isplitl [Hs1]; · iexact Hs1
  iintro ⟨H0, H1, H2, H3, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run and the frame -/

set_option backward.isDefEq.respectTransparency.types false in
set_option maxHeartbeats 800000 in
/-- The run: every window's array at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The frame: the run terminates, the arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1))⟩, h.2⟩) (run_main_quiescent m ρ)

/-- The result array after the run: what the proof data says of the output window. -/
theorem run_result : θ_run defs (onTc (τ := τ) (main (F := F))) ⟨m, fun _ => 0, ρ⟩ (fun r => ∀ c : Dev nD,
      r.2.mem ((c.tc : Thread nD τ).loc main_v0) = (dats m 0 c).arrAt 3 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 3, ((h.1 c).1 0).trans (((dats m 0 c).arrAt_in 0 rfl _).trans (A_eq m c 0)),
      ((h.1 c).1 1).trans (((dats m 0 c).arrAt_in 1 rfl _).trans (A_eq m c 1))⟩) (run_main_quiescent m ρ)

end Cert.Proof.Stick.KernelIdeal

end
-- ==== Proof.Stick.Math.lean ====
/-
  Stick-breaking attention over the reals, for one query and one head.

  `z j` is the query's score at key `j`, `t` the query's position. Key `j < t` takes the share `exp (lb (z j))` of what the keys
  after it (up to `t`) have left over, and leaves the rest, of logarithm `lb (z j) - z j`. The facts below are about these
  sums alone, in base `e`; the kernel keeps the same logarithms in base 2, that is divided by `log 2`.
-/
module

public import Idealize.ShloMosaic.PureOps.Ideal
public import Idealize.ShloMosaic.Lib.Pointwise

@[expose] public section

noncomputable section

namespace Cert.Proof.Stick.Math

open Idealize.ShloMosaic

/-- The logarithm of the logistic function at `z`. -/
def lb (z : ℝ) : ℝ := min z 0 - Real.log (1 + Real.exp (-|z|))

/-- The logarithm of what key `j` leaves over to the keys before it; nothing is taken (logarithm 0) from position `t` on. -/
def lr (t : ℕ) (z : ℕ → ℝ) (j : ℕ) : ℝ := if j < t then lb (z j) - z j else 0

/-- The logarithm of what the keys from `k` on leave over. -/
def suf (t : ℕ) (z : ℕ → ℝ) (k : ℕ) : ℝ := ∑ i ∈ Finset.Ico k 8192, lr t z i

/-- The weight of key `j`. -/
def wt (t : ℕ) (z : ℕ → ℝ) (j : ℕ) : ℝ := if j < t then Real.exp (lb (z j) + suf t z (j + 1)) else 0

/-- The weighted sum of the values of the keys from `k` on. -/
def att (t : ℕ) (z : ℕ → ℝ) (v : ℕ → EReal) (k : ℕ) : EReal := ∑ j ∈ Finset.Ico k 8192, (wt t z j : EReal) * v j

theorem log_two_pos : 0 < Real.log 2 := Real.log_pos (by norm_num)

/-- A power of two with its exponent in base 2 is the exponential with the exponent in base `e`. -/
theorem rpow_div_log (x : ℝ) : Real.rpow 2 (x / Real.log 2) = Real.exp x := by
  show (2 : ℝ) ^ (x / Real.log 2) = _
  rw [Real.rpow_def_of_pos (by norm_num), mul_div_cancel₀ _ log_two_pos.ne']

/-- A sum of reals is the same sum of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_min (a b : ℝ) : ((min a b : ℝ) : EReal) = min (a : EReal) b :=
  (EReal.coe_strictMono.monotone.map_min)

theorem coe_max (a b : ℝ) : ((max a b : ℝ) : EReal) = max (a : EReal) b :=
  (EReal.coe_strictMono.monotone.map_max)

/-- A real's absolute value, of the extended reals. -/
theorem absf_coe (a : ℝ) : (FloatOps.absf (F := Ideal) (φ := .f32) (a : EReal) : EReal) = ((|a| : ℝ) : EReal) := by
  show max (a : EReal) (-(a : EReal)) = _
  rw [← EReal.coe_neg, ← coe_max]; rfl

theorem exp2_coe (a : ℝ) : (FloatOps.exp2 (F := Ideal) (φ := .f32) ((a / Real.log 2 : ℝ) : EReal) : EReal) = (Real.exp a : EReal) := by
  show Ideal.exp2 _ = _
  rw [Ideal.exp2_coe, rpow_div_log]

theorem log_one_add (a : ℝ) (h : 0 ≤ a) : Ideal.log (1 + (a : EReal)) = (Real.log (1 + a) : EReal) := by
  rw [← EReal.coe_one, ← EReal.coe_add, Ideal.log_coe, if_neg (by linarith)]

/-- The kernel's base-2 logarithm of the logistic function, at a score held in base 2. -/
theorem kernel_lb (z : ℝ) :
    (min ((z / Real.log 2 : ℝ) : EReal) 0
      - Ideal.log (1 + (FloatOps.exp2 (F := Ideal) (φ := .f32) (0 - (FloatOps.absf (F := Ideal) (φ := .f32) ((z / Real.log 2 : ℝ) : EReal) : EReal)) : EReal)) * (((Real.log 2)⁻¹ : ℝ) : EReal) : EReal)
    = ((lb z / Real.log 2 : ℝ) : EReal) := by
  have hl := log_two_pos
  have e1 : |z / Real.log 2| = |z| / Real.log 2 := by rw [abs_div, abs_of_pos hl]
  have e2 : (0 : EReal) - ((|z| / Real.log 2 : ℝ) : EReal) = ((-|z| / Real.log 2 : ℝ) : EReal) := by
    rw [← EReal.coe_zero, ← EReal.coe_sub, zero_sub, neg_div]
  have e3 : min (z / Real.log 2) 0 = min z 0 / Real.log 2 := by
    rw [← min_div_div_right hl.le, zero_div]
  rw [absf_coe, e1, e2, exp2_coe, log_one_add _ (Real.exp_pos _).le, ← EReal.coe_zero, ← coe_min, ← EReal.coe_mul, ← EReal.coe_sub, e3, lb, sub_div, div_eq_mul_inv (Real.log _)]

/-- A range of keys cut at the end of its first block of 256. -/
theorem sum_block {M : Type*} [AddCommMonoid M] (f : ℕ → M) (k : ℕ) (hk : 256 * (k + 1) ≤ 8192) :
    ∑ i ∈ Finset.Ico (256 * k) 8192, f i = (∑ i ∈ Finset.Ico (256 * (k + 1)) 8192, f i) + ∑ x : Fin 256, f (256 * k + x.val) := by
  rw [← Finset.sum_Ico_consecutive f (show 256 * k ≤ 256 * (k + 1) by omega) hk, add_comm]
  congr 1
  rw [Finset.sum_Ico_eq_sum_range, show 256 * (k + 1) - 256 * k = 256 by omega, Finset.sum_range]

/-- The keys after `j` of a block of 256, and the blocks after it. -/
theorem suf_in_block (t : ℕ) (z : ℕ → ℝ) (k : ℕ) (hk : 256 * (k + 1) ≤ 8192) (j : Fin 256) :
    (∑ x : Fin 256, if j.val < x.val then lr t z (256 * k + x.val) else 0) + suf t z (256 * (k + 1)) = suf t z (256 * k + j.val + 1) := by
  have hj := j.isLt
  unfold suf
  rw [← Finset.sum_Ico_consecutive (lr t z) (show 256 * k + j.val + 1 ≤ 256 * (k + 1) by omega) hk]
  congr 1
  rw [← Finset.sum_range (fun x => if j.val < x then lr t z (256 * k + x) else 0), ← Finset.sum_filter,
    Finset.sum_Ico_eq_sum_range]
  refine Finset.sum_nbij' (fun x => x - (j.val + 1)) (fun i => j.val + 1 + i) ?_ ?_ ?_ ?_ ?_ <;>
    simp only [Finset.mem_filter, Finset.mem_range, and_imp] <;> intros
  · omega
  · omega
  · omega
  · omega
  · congr 1; omega

theorem suf_step (t : ℕ) (z : ℕ → ℝ) (k : ℕ) (hk : 256 * (k + 1) ≤ 8192) :
    suf t z (256 * k) = suf t z (256 * (k + 1)) + ∑ x : Fin 256, lr t z (256 * k + x.val) := sum_block _ k hk

theorem att_step (t : ℕ) (z : ℕ → ℝ) (v : ℕ → EReal) (k : ℕ) (hk : 256 * (k + 1) ≤ 8192) :
    att t z v (256 * k) = att t z v (256 * (k + 1)) + ∑ x : Fin 256, (wt t z (256 * k + x.val) : EReal) * v (256 * k + x.val) :=
  sum_block _ k hk

/-- Past the query's position nothing is taken … -/
theorem suf_start (t : ℕ) (z : ℕ → ℝ) (k : ℕ) (h : t ≤ k) : suf t z k = 0 :=
  Finset.sum_eq_zero fun i hi => if_neg (by have := (Finset.mem_Ico.mp hi).1; omega)

/-- … and nothing is summed. -/
theorem att_start (t : ℕ) (z : ℕ → ℝ) (v : ℕ → EReal) (k : ℕ) (h : t ≤ k) : att t z v k = 0 :=
  Finset.sum_eq_zero fun i hi => by
    rw [wt, if_neg (by have := (Finset.mem_Ico.mp hi).1; omega), EReal.coe_zero, zero_mul]

end Cert.Proof.Stick.Math

end
-- ==== Proof.Stick.Step.lean ====
/-
  One key block of the stick-breaking kernel over the extended reals: what a block adds to a head's running sum of
  logarithms and to its weighted sum of values, when the block's scores are real.
-/
module

public import proofs.«01_k».proof.Proof.Stick.KernelIdeal.Frame
public import proofs.«01_k».proof.Proof.Stick.Math

@[expose] public section

set_option maxRecDepth 16384

noncomputable section

namespace Cert.Proof.Stick.Step

open Cert.KernelIdeal Cert.KernelIdeal.Gen Idealize.ShloMosaic Cert.Proof.Stick.Math

/-- The two heads run one arithmetic. -/
theorem newAcc1_eq (v12 v11 : IVec S256x256 32) (v18 : FVec Ideal S256x256 .bf16) (v7 : FVec Ideal S256x128 .bf16) (a : BitVec 32) (kb vb : Vec Ideal S256x128 .bf16)
    (acc : Vec Ideal S2x256x128 .f32) (rem : Vec Ideal S2x256x1 .f32) :
    KernelIdeal.newAcc1 v12 v11 v18 v7 a kb vb acc rem
      = k0_pay15 vb (k0_pay9 v12 v11 a) (k0_pay14 v12 v11 v7 v18 a kb (KernelIdeal.rem1 rem)) (Scalar.ofBits .f32 0x00000000#32) (KernelIdeal.acc1 acc) := rfl

theorem newRem1_eq (v12 v11 : IVec S256x256 32) (v7 : FVec Ideal S256x128 .bf16) (a : BitVec 32) (kb : Vec Ideal S256x128 .bf16) (rem : Vec Ideal S2x256x1 .f32) :
    KernelIdeal.newRem1 v12 v11 v7 a kb rem = k0_pay17 (k0_pay10 (KernelIdeal.rem1 rem)) (k0_pay13 v12 v11 v7 a kb) := rfl

theorem pay28_eq (v12 v11 : IVec S256x256 32) (v7 : FVec Ideal S256x128 .bf16) (a : BitVec 32) (kb : Vec Ideal S256x128 .bf16) (rem : Vec Ideal S1x256x1 .f32) (mx : EReal) :
    (k0_pay28 (F := Ideal) (k0_pay9 v12 v11 a) mx (k0_pay19 rem) (k0_pay20 v7 kb) (k0_pay21 v7 kb) k0_pay22 : EReal)
      = max mx (Finset.univ.fold max (Ideal.ofBits .f32 0xFF800000#32) fun x : Fin 256 × Fin 1 => (k0_pay17 (k0_pay10 rem) (k0_pay13 v12 v11 v7 a kb) (ix3 0 x.1 0) : EReal)) := by
  have e : k0_pay26 (F := Ideal) (k0_pay9 v12 v11 a) (k0_pay19 rem) (k0_pay20 v7 kb) (k0_pay21 v7 kb) k0_pay22 = k0_pay16 (k0_pay10 rem) (k0_pay13 v12 v11 v7 a kb) := rfl
  unfold k0_pay28
  rw [e]
  pointwise [k0_pay17]
  done

/-- The triangle matrix's entry: 1 where its row comes after its column. -/
theorem tri_apply (x j : Fin 256) :
    (FloatOps.sitofp (F := Ideal) .f32 (BitVec.setWidth 32 (IntOp.cmpi .sgt (BitVec.ofNat 32 x.val) (BitVec.ofNat 32 j.val))) : EReal) = if j.val < x.val then 1 else 0 := by
  have hx := x.isLt
  have hj := j.isLt
  rw [WordCmp.cmpi_sgt_ofNat (by omega) (by omega)]
  by_cases h : j.val < x.val <;> simp only [h, decide_true, decide_false, if_true, if_false]
  · show (((BitVec.setWidth 32 (BitVec.ofBool true)).toInt : ℝ) : EReal) = 1
    rw [show (BitVec.setWidth 32 (BitVec.ofBool true)).toInt = 1 from by decide, Int.cast_one, EReal.coe_one]
  · show (((BitVec.setWidth 32 (BitVec.ofBool false)).toInt : ℝ) : EReal) = 0
    rw [show (BitVec.setWidth 32 (BitVec.ofBool false)).toInt = 0 from by decide, Int.cast_zero, EReal.coe_zero]

theorem select_mul (c : BitVec 1) (a b : EReal) : Scalar.select c (a * b) 0 = Scalar.select c a 0 * b := by
  unfold Scalar.select
  split
  · rfl
  · rw [zero_mul]

section Block

variable (i : grid0.Coords) (kb : ℕ) (hkb : 256 * (kb + 1) ≤ 8192)

include hkb in
/-- The mask of a block: key `256·kb + j` comes strictly before query `256·i₂ + r`. -/
theorem pay9_apply (r j : Fin 256) :
    k0_pay9 (iota .tc S256x256 32 [1] iota_S256x256_d1_w32) (k0_pay5 i) (BitVec.ofNat 32 kb) (ix2 r j)
      = if 256 * kb + j.val < 256 * (i 2).val + r.val then 1#1 else 0#1 := by
  have h2 : (i 2).val < 32 := (i 2).isLt
  pointwise [k0_pay9, k0_pay5]
  have e : ∀ n x : ℕ, IntOp.addi (Scalar.muli (BitVec.ofNat 32 n) 256#32) (BitVec.ofNat 32 x) = BitVec.ofNat 32 (256 * n + x) := by
    intro n x
    show BitVec.ofNat 32 n * BitVec.ofNat 32 256 + BitVec.ofNat 32 x = _
    rw [← BitVec.ofNat_mul, ← BitVec.ofNat_add, Nat.mul_comm]
  rw [e, e]
  exact (WordCmp.cmpi_slt_ofNat (by omega) (by omega)).trans (by split <;> rename_i h <;> simp only [h, decide_true, decide_false] <;> rfl)

variable (q k : Vec Ideal S256x128 .bf16) (Z : Fin 256 → ℕ → ℝ)
  (hz : ∀ r j : Fin 256, k0_pay11 q k (ix2 r j) = ((Z r (256 * kb + j.val) / Real.log 2 : ℝ) : EReal))

include hz in
theorem pay12_apply (r j : Fin 256) : k0_pay12 q k (ix2 r j) = ((lb (Z r (256 * kb + j.val)) / Real.log 2 : ℝ) : EReal) := by
  pointwise [k0_pay12]
  rw [hz]
  exact kernel_lb _

include hz hkb in
theorem pay13_apply (r j : Fin 256) :
    k0_pay13 (iota .tc S256x256 32 [1] iota_S256x256_d1_w32) (k0_pay5 i) q (BitVec.ofNat 32 kb) k (ix2 r j)
      = ((lr (256 * (i 2).val + r.val) (Z r) (256 * kb + j.val) / Real.log 2 : ℝ) : EReal) := by
  pointwise [k0_pay13]
  rw [hz, pay12_apply kb q k Z hz, pay9_apply i kb hkb, lr]
  split
  · rw [sub_div, EReal.coe_sub]; rfl
  · rw [zero_div, EReal.coe_zero]; rfl

variable (rem : Vec Ideal S1x256x1 .f32)
  (hrem : ∀ r : Fin 256, rem (ix3 0 r 0) = ((suf (256 * (i 2).val + r.val) (Z r) (256 * (kb + 1)) / Real.log 2 : ℝ) : EReal))

include hz hrem hkb in
theorem pay14_apply (r j : Fin 256) :
    Scalar.select (k0_pay9 (iota .tc S256x256 32 [1] iota_S256x256_d1_w32) (k0_pay5 i) (BitVec.ofNat 32 kb) (ix2 r j))
      (k0_pay14 (iota .tc S256x256 32 [1] iota_S256x256_d1_w32) (k0_pay5 i) q k0_pay6 (BitVec.ofNat 32 kb) k rem (ix2 r j) : EReal) (0 : EReal)
      = (wt (256 * (i 2).val + r.val) (Z r) (256 * kb + j.val) : EReal) := by
  pointwise [k0_pay14, k0_pay6, k0_pay10]
  simp only [pay13_apply i kb hkb q k Z hz, pay12_apply kb q k Z hz, pay9_apply i kb hkb, hrem, tri_apply, ← EReal.coe_sub, sub_self, EReal.coe_zero, zero_mul, Finset.sum_const_zero, add_zero, mul_ite, mul_one, mul_zero, ite_self, Finset.sum_const_zero, add_zero]
  rw [wt]
  split
  · have e : (∑ x : Fin 256, if j.val < x.val then ((lr (256 * (i 2).val + r.val) (Z r) (256 * kb + x.val) / Real.log 2 : ℝ) : EReal) else 0)
        = (((∑ x : Fin 256, if j.val < x.val then lr (256 * (i 2).val + r.val) (Z r) (256 * kb + x.val) else 0) / Real.log 2 : ℝ) : EReal) := by
      rw [Finset.sum_div, coe_sum]
      refine Finset.sum_congr rfl fun x _ => ?_
      split
      · rfl
      · rw [zero_div, EReal.coe_zero]
    rw [e, ← EReal.coe_add, ← EReal.coe_add, ← add_div, ← add_div, add_assoc, suf_in_block _ _ _ hkb]
    exact exp2_coe _
  · rfl

include hz hrem hkb in
theorem newRem_apply (r : Fin 256) :
    k0_pay17 (k0_pay10 rem) (k0_pay13 (iota .tc S256x256 32 [1] iota_S256x256_d1_w32) (k0_pay5 i) q (BitVec.ofNat 32 kb) k) (ix3 0 r 0)
      = ((suf (256 * (i 2).val + r.val) (Z r) (256 * kb) / Real.log 2 : ℝ) : EReal) := by
  pointwise [k0_pay17, k0_pay16, k0_pay10]
  simp only [pay13_apply i kb hkb q k Z hz, hrem]
  rw [suf_step _ _ _ hkb, add_div, EReal.coe_add, Finset.sum_div, coe_sum]

variable (v : Vec Ideal S256x128 .bf16) (acc : Vec Ideal S1x256x128 .f32) (Vv : ℕ → Fin 128 → EReal)
  (hv : ∀ (j : Fin 256) (l : Fin 128), v (ix2 j l) = Vv (256 * kb + j.val) l)
  (hacc : ∀ (r : Fin 256) (l : Fin 128), acc (ix3 0 r l) = att (256 * (i 2).val + r.val) (Z r) (fun j => Vv j l) (256 * (kb + 1)))

include hz hrem hkb hv hacc in
theorem newAcc_apply (r : Fin 256) (l : Fin 128) :
    k0_pay15 v (k0_pay9 (iota .tc S256x256 32 [1] iota_S256x256_d1_w32) (k0_pay5 i) (BitVec.ofNat 32 kb))
      (k0_pay14 (iota .tc S256x256 32 [1] iota_S256x256_d1_w32) (k0_pay5 i) q k0_pay6 (BitVec.ofNat 32 kb) k rem)
      (Scalar.ofBits .f32 0x00000000#32) acc (ix3 0 r l)
      = att (256 * (i 2).val + r.val) (Z r) (fun j => Vv j l) (256 * kb) := by
  rw [att_step _ _ _ _ hkb, ← hacc]
  pointwise [k0_pay15]
  simp only [← pay14_apply i kb hkb q k Z hz rem hrem, ← hv]
  refine congrArg _ (Finset.sum_congr rfl fun x _ => ?_)
  exact select_mul _ _ _

end Block

end Cert.Proof.Stick.Step

end
-- ==== Proof.Stick.Walk.lean ====
/-
  The whole walk of the stick-breaking kernel over the extended reals: with real scores the running sums stay real, so the walk
  never stops early, and it ends with the weighted sums over all the keys.
-/
module

public import proofs.«01_k».proof.Proof.Stick.Step

@[expose] public section

set_option maxRecDepth 16384

noncomputable section

namespace Cert.Proof.Stick.Walk

open Cert.KernelIdeal Cert.KernelIdeal.Gen Idealize.ShloMosaic Cert.Proof.Stick.Math Cert.Proof.Stick.Step
open Cert.Proof.Stick.KernelIdeal

/-- The row a block's word and an offset in the block name. -/
theorem blockOf_apply (x : Vec Ideal S8192x128 .bf16) (k : ℕ) (hk : 256 * (k + 1) ≤ 8192) (h : k0_chk1 (BitVec.ofNat 32 k)) (j : Fin 256) (l : Fin 128) :
    blockOf x (BitVec.ofNat 32 k) h (ix2 j l) = x (ix2 ⟨256 * k + j.val, by omega⟩ l) := by
  have e : ∀ k : Fin 32, k0_off1 (BitVec.ofNat 32 k.val) = ![256 * k.val, 0] := by decide
  have e' := e ⟨k, by omega⟩
  unfold blockOf VecWindow.window
  refine congrArg x (funext fun a => Fin.ext ?_)
  show k0_off1 (BitVec.ofNat 32 k) a + 1 * (ix2 j l a).val = _
  rw [e']
  match a with
  | ⟨0, _⟩ => exact congrArg (256 * k + ·) (Nat.one_mul _)
  | ⟨1, _⟩ => show 0 + 1 * l.val = l.val; omega

variable (i : grid0.Coords) (q0 q1 : Vec Ideal S256x128 .bf16) (xk xv : Vec Ideal S8192x128 .bf16)
  (Z0 Z1 : Fin 256 → ℕ → ℝ)

/-- The values by key number. -/
def vAt (j : ℕ) (l : Fin 128) : EReal := if h : j < 8192 then xv (ix2 ⟨j, h⟩ l) else 0

/-- A head's scores, as the kernel computes them, are the reals `Z` (in base 2). -/
def Scores (q : Vec Ideal S256x128 .bf16) (Z : Fin 256 → ℕ → ℝ) : Prop :=
  ∀ (r : Fin 256) (j : Fin 8192), ((∑ l : Fin 128, q (ix2 r l) * xk (ix2 j l)) * (((1 / 8) * (Real.log 2)⁻¹ : ℝ) : EReal) : EReal) = ((Z r j.val / Real.log 2 : ℝ) : EReal)

theorem scores_block (q : Vec Ideal S256x128 .bf16) (Z : Fin 256 → ℕ → ℝ) (hs : Scores xk q Z) (k : ℕ) (hk : 256 * (k + 1) ≤ 8192)
    (h : k0_chk1 (BitVec.ofNat 32 k)) (r j : Fin 256) :
    k0_pay11 q (blockOf xk (BitVec.ofNat 32 k) h) (ix2 r j) = ((Z r (256 * k + j.val) / Real.log 2 : ℝ) : EReal) := by
  pointwise [k0_pay11]
  simp only [blockOf_apply xk k hk h]
  exact hs r ⟨256 * k + j.val, by omega⟩

/-- What the two scratches and the largest running sum are with the keys from block `k` on already visited. -/
structure Inv (k : ℕ) (mx : EReal) (acc : Vec Ideal S2x256x128 .f32) (rem : Vec Ideal S2x256x1 .f32) : Prop where
  mx : ⊥ < mx
  rem0 : ∀ r : Fin 256, rem0 rem (ix3 0 r 0) = ((suf (256 * (i 2).val + r.val) (Z0 r) (256 * k) / Real.log 2 : ℝ) : EReal)
  rem1 : ∀ r : Fin 256, rem1 rem (ix3 0 r 0) = ((suf (256 * (i 2).val + r.val) (Z1 r) (256 * k) / Real.log 2 : ℝ) : EReal)
  acc0 : ∀ (r : Fin 256) (l : Fin 128), acc0 acc (ix3 0 r l) = att (256 * (i 2).val + r.val) (Z0 r) (fun j => vAt xv j l) (256 * k)
  acc1 : ∀ (r : Fin 256) (l : Fin 128), acc1 acc (ix3 0 r l) = att (256 * (i 2).val + r.val) (Z1 r) (fun j => vAt xv j l) (256 * k)

/-- The position row, the key row and the triangle the walk runs with. -/
abbrev cols : IVec S256x256 32 := iota .tc S256x256 32 [1] iota_S256x256_d1_w32

theorem acc0_step (v12 v11 : IVec S256x256 32) (v5 : Vec Ideal S256x128 .bf16) (v18 : FVec Ideal S256x256 .bf16) (v7 : FVec Ideal S256x128 .bf16)
    (a : BitVec 32) (h : k0_chk1 a) (acc : Vec Ideal S2x256x128 .f32) (rem : Vec Ideal S2x256x1 .f32) :
    acc0 (accStep v12 v11 v5 v18 v7 xk xv a h acc rem) = newAcc0 v12 v11 v5 v18 a (blockOf xk a h) (blockOf xv a h) acc rem := by
  unfold acc0 accStep
  rw [VecWindow.window_put_of_disjoint _ _ _ _ _ _ _ (0 : Fin 3) (Or.inl (by decide)), VecWindow.window_put_same]

theorem acc1_step (v12 v11 : IVec S256x256 32) (v5 : Vec Ideal S256x128 .bf16) (v18 : FVec Ideal S256x256 .bf16) (v7 : FVec Ideal S256x128 .bf16)
    (a : BitVec 32) (h : k0_chk1 a) (acc : Vec Ideal S2x256x128 .f32) (rem : Vec Ideal S2x256x1 .f32) :
    acc1 (accStep v12 v11 v5 v18 v7 xk xv a h acc rem) = newAcc1 v12 v11 v18 v7 a (blockOf xk a h) (blockOf xv a h) acc rem := by
  unfold acc1 accStep
  rw [VecWindow.window_put_same]

theorem rem0_step (v12 v11 : IVec S256x256 32) (v5 : Vec Ideal S256x128 .bf16) (v7 : FVec Ideal S256x128 .bf16)
    (a : BitVec 32) (h : k0_chk1 a) (rem : Vec Ideal S2x256x1 .f32) :
    rem0 (remStep v12 v11 v5 v7 xk a h rem) = newRem0 v12 v11 v5 a (blockOf xk a h) rem := by
  unfold rem0 remStep
  rw [VecWindow.window_put_of_disjoint _ _ _ _ _ _ _ (0 : Fin 3) (Or.inl (by decide)), VecWindow.window_put_same]

theorem rem1_step (v12 v11 : IVec S256x256 32) (v5 : Vec Ideal S256x128 .bf16) (v7 : FVec Ideal S256x128 .bf16)
    (a : BitVec 32) (h : k0_chk1 a) (rem : Vec Ideal S2x256x1 .f32) :
    rem1 (remStep v12 v11 v5 v7 xk a h rem) = newRem1 v12 v11 v7 a (blockOf xk a h) rem := by
  unfold rem1 remStep
  rw [VecWindow.window_put_same]

variable {i xk xv Z0 Z1}

/-- One block keeps the invariant. -/
theorem inv_step (hs0 : Scores xk q0 Z0) (hs1 : Scores xk q1 Z1) (k : ℕ) (hk : 256 * (k + 1) ≤ 8192) (h : k0_chk1 (BitVec.ofNat 32 k))
    (mx : EReal) (acc : Vec Ideal S2x256x128 .f32) (rem : Vec Ideal S2x256x1 .f32) (hI : Inv i xv Z0 Z1 (k + 1) mx acc rem) :
    Inv i xv Z0 Z1 k (mxStep cols (k0_pay5 i) q0 q1 xk (BitVec.ofNat 32 k) h rem)
      (accStep cols (k0_pay5 i) q0 k0_pay6 q1 xk xv (BitVec.ofNat 32 k) h acc rem) (remStep cols (k0_pay5 i) q0 q1 xk (BitVec.ofNat 32 k) h rem) := by
  have hv : ∀ (j : Fin 256) (l : Fin 128), blockOf xv (BitVec.ofNat 32 k) h (ix2 j l) = vAt xv (256 * k + j.val) l := fun j l => by
    rw [blockOf_apply xv k hk h, vAt, dif_pos]
  have hr1 : ∀ r : Fin 256, k0_pay17 (k0_pay10 (KernelIdeal.rem1 rem)) (k0_pay13 cols (k0_pay5 i) q1 (BitVec.ofNat 32 k) (blockOf xk (BitVec.ofNat 32 k) h)) (ix3 0 r 0)
      = ((suf (256 * (i 2).val + r.val) (Z1 r) (256 * k) / Real.log 2 : ℝ) : EReal) := fun r =>
    newRem_apply i k hk q1 _ Z1 (scores_block xk q1 Z1 hs1 k hk h) (KernelIdeal.rem1 rem) hI.rem1 r
  refine ⟨?_, ?_, ?_, ?_, ?_⟩
  · unfold mxStep
    rw [pay28_eq]
    refine lt_of_lt_of_le (EReal.bot_lt_coe (suf (256 * (i 2).val + (0 : Fin 256).val) (Z1 0) (256 * k) / Real.log 2)) (le_trans ?_ (le_max_right _ _))
    exact (Finset.le_fold_max _).mpr (Or.inr ⟨(0, 0), Finset.mem_univ _, (hr1 0).ge⟩)
  · intro r
    rw [rem0_step]
    exact newRem_apply i k hk q0 _ Z0 (scores_block xk q0 Z0 hs0 k hk h) (KernelIdeal.rem0 rem) hI.rem0 r
  · intro r
    rw [rem1_step, newRem1_eq]
    exact hr1 r
  · intro r l
    rw [acc0_step]
    exact newAcc_apply i k hk q0 _ Z0 (scores_block xk q0 Z0 hs0 k hk h) (KernelIdeal.rem0 rem) hI.rem0 _ _ (vAt xv) hv hI.acc0 r l
  · intro r l
    rw [acc1_step, newAcc1_eq]
    exact newAcc_apply i k hk q1 _ Z1 (scores_block xk q1 Z1 hs1 k hk h) (KernelIdeal.rem1 rem) hI.rem1 _ _ (vAt xv) hv hI.acc1 r l

/-- While the largest running sum is above `-∞` the walk goes on. -/
theorem goes_on (k : ℕ) (hk : 256 * (k + 1) ≤ 8192) (mx : EReal) (h : ⊥ < mx) :
    Scalar.andi (Scalar.cmpi .sge (BitVec.ofNat 32 k) 0#32) (Scalar.cmpf (F := Ideal) (φ := .f32) .ogt mx stopBelow) = 1#1 := by
  have e1 : Scalar.cmpi .sge (BitVec.ofNat 32 k) 0#32 = 1#1 :=
    (by decide : ∀ k : Fin 32, Scalar.cmpi .sge (BitVec.ofNat 32 k.val) 0#32 = 1#1) ⟨k, by omega⟩
  have e2 : Scalar.cmpf (F := Ideal) (φ := .f32) .ogt mx stopBelow = 1#1 := by
    show BitVec.ofBool (decide ((⊥ : EReal) < mx)) = 1#1
    rw [decide_eq_true h]; rfl
  rw [e1, e2]; rfl

/-- The walk from `k` blocks left ends with the invariant at 0. -/
theorem loop_inv (hs0 : Scores xk q0 Z0) (hs1 : Scores xk q1 Z1) : ∀ (k : ℕ) (_ : 256 * k ≤ 8192)
    (mx : EReal) (acc : Vec Ideal S2x256x128 .f32) (rem : Vec Ideal S2x256x1 .f32), Inv i xv Z0 Z1 k mx acc rem →
    ∃ mx', Inv i xv Z0 Z1 0 mx' (loopF cols (k0_pay5 i) q0 k0_pay6 q1 xk xv k mx acc rem).1 (loopF cols (k0_pay5 i) q0 k0_pay6 q1 xk xv k mx acc rem).2
  | 0, _, mx, acc, rem, hI => ⟨mx, hI⟩
  | k + 1, hk, mx, acc, rem, hI => by
    have h : k0_chk1 (BitVec.ofNat 32 k) := chk_ofNat ⟨k, by omega⟩
    have e : loopF cols (k0_pay5 i) q0 k0_pay6 q1 xk xv (k + 1) mx acc rem
        = loopF cols (k0_pay5 i) q0 k0_pay6 q1 xk xv k (mxStep cols (k0_pay5 i) q0 q1 xk (BitVec.ofNat 32 k) h rem)
          (accStep cols (k0_pay5 i) q0 k0_pay6 q1 xk xv (BitVec.ofNat 32 k) h acc rem) (remStep cols (k0_pay5 i) q0 q1 xk (BitVec.ofNat 32 k) h rem) := by
      rw [loopF, dif_pos h, if_pos (goes_on k hk mx hI.mx)]
    rw [e]
    exact loop_inv hs0 hs1 k (by omega) _ _ _ (inv_step q0 q1 hs0 hs1 k hk h mx acc rem hI)

variable (i xv Z0 Z1)

/-- Before the first block nothing is summed. -/
theorem inv_start : Inv i xv Z0 Z1 ((i 2).val + 1) (Scalar.ofBits (F := Ideal) .f32 0x00000000#32) (k0_pay7 (F := Ideal)) (k0_pay8 (F := Ideal)) := by
  have h : ∀ r : Fin 256, 256 * (i 2).val + r.val ≤ 256 * ((i 2).val + 1) := fun r => by have := r.isLt; omega
  have h0 : (Scalar.ofBits (F := Ideal) .f32 0x00000000#32 : EReal) = 0 := by pointwise
  refine ⟨by rw [h0]; exact EReal.bot_lt_zero, ?_, ?_, ?_, ?_⟩
  · intro r
    rw [suf_start _ _ _ (h r), zero_div, EReal.coe_zero]
    exact h0
  · intro r
    rw [suf_start _ _ _ (h r), zero_div, EReal.coe_zero]
    exact h0
  · intro r l
    rw [att_start _ _ _ _ (h r)]
    exact h0
  · intro r l
    rw [att_start _ _ _ _ (h r)]
    exact h0

variable {i xv Z0 Z1}

/-- A lane of the output block: head 0's weighted sum below lane 64, head 1's from there on. -/
theorem outF_apply (x0 : Vec Ideal S256x128 .bf16) (hs0 : Scores xk (k0_pay3 (qBlk x0)) Z0) (hs1 : Scores xk (k0_pay4 (qBlk x0)) Z1) (r : Fin 256) (l : Fin 128) :
    outF i x0 xk xv (ix2 r l) = if l.val < 64 then att (256 * (i 2).val + r.val) (Z0 r) (fun j => vAt xv j l) 0 else att (256 * (i 2).val + r.val) (Z1 r) (fun j => vAt xv j l) 0 := by
  have h2 : (i 2).val < 32 := (i 2).isLt
  obtain ⟨_, hI⟩ := loop_inv (i := i) (xv := xv) _ _ hs0 hs1 ((i 2).val + 1) (by omega) _ _ _ (inv_start i xv Z0 Z1)
  unfold outF
  pointwise [k0_pay1, k0_pay2]
  rw [show KernelIdeal.acc0 (walk i x0 xk xv).1 (ix3 0 r l) = _ from hI.acc0 r l, show KernelIdeal.acc1 (walk i x0 xk xv).1 (ix3 0 r l) = _ from hI.acc1 r l]
  have hl := l.isLt
  rw [show 64#32 = BitVec.ofNat 32 64 from rfl, WordCmp.cmpi_slt_ofNat (by omega) (by omega)]
  by_cases h : l.val < 64 <;> simp only [h, decide_true, decide_false, if_true, if_false] <;> rfl

end Cert.Proof.Stick.Walk

end
-- ==== Proof.Stick.Spec.lean ====
/-
  Stick-breaking attention over real queries and keys: the score of a query and a key, and an element of the result.
-/
module

public import proofs.«01_k».proof.Proof.Stick.Math

@[expose] public section

noncomputable section

namespace Cert.Proof.Stick

open Cert.Proof.Stick.Math

/-- The score of the query at position `t` and the key at position `j`, sequence `b`, head `h`: the heads' 64 lanes' product over
    the square root of 64. The queries are 16384 rows by 1024 lanes, the keys the first 1024 lanes of 2048. -/
def score (Q K : ℕ → ℕ → ℝ) (b h t j : ℕ) : ℝ := (∑ d : Fin 64, Q (b * 8192 + t) (h * 64 + d.val) * K (b * 8192 + j) (h * 64 + d.val)) * (1 / 8)

/-- Row `r`, lane `l` of the result: the weighted sum of the values, which are the last 1024 lanes of 2048. -/
def out (Q K : ℕ → ℕ → ℝ) (V : ℕ → ℕ → EReal) (r l : ℕ) : EReal :=
  att (r % 8192) (score Q K (r / 8192) (l / 64) (r % 8192)) (fun j => V (r / 8192 * 8192 + j) (1024 + l)) 0

/-- A weighted sum reads the values at the 8192 keys only, … -/
theorem att_congr (t : ℕ) (z z' : ℕ → ℝ) (v v' : ℕ → EReal) (hz : ∀ j < 8192, z j = z' j) (h : ∀ j < 8192, v j = v' j) : att t z v 0 = att t z' v' 0 := by
  have hl : ∀ j < 8192, lr t z j = lr t z' j := fun j hj => by unfold lr; rw [hz j hj]
  have hs : ∀ k, suf t z k = suf t z' k := fun k => Finset.sum_congr rfl fun i hi => hl i (Finset.mem_Ico.mp hi).2
  refine Finset.sum_congr rfl fun j hj => ?_
  have hj := (Finset.mem_Ico.mp hj).2
  rw [h j hj, wt, wt, hz j hj, hs]

/-- A sum over 128 lanes of terms that vanish past lane 64. -/
theorem sum_low (f : Fin 128 → EReal) (h : ∀ l, 64 ≤ l.val → f l = 0) : ∑ l, f l = ∑ d : Fin 64, f ⟨d.val, by omega⟩ := by
  rw [show (∑ l : Fin 128, f l) = ∑ l : Fin (64 + 64), f l from rfl, Fin.sum_univ_add,
    Finset.sum_eq_zero (s := Finset.univ) (f := fun i : Fin 64 => f (Fin.natAdd 64 i)) fun i _ => h _ (Nat.le_add_right _ _), add_zero]
  rfl

/-- A sum over 128 lanes of terms that vanish below lane 64. -/
theorem sum_high (f : Fin 128 → EReal) (h : ∀ l, l.val < 64 → f l = 0) : ∑ l, f l = ∑ d : Fin 64, f ⟨64 + d.val, by omega⟩ := by
  rw [show (∑ l : Fin 128, f l) = ∑ l : Fin (64 + 64), f l from rfl, Fin.sum_univ_add,
    Finset.sum_eq_zero (s := Finset.univ) (f := fun i : Fin 64 => f (Fin.castAdd 64 i)) fun i _ => h _ i.isLt, zero_add]
  rfl

/-- The kernel's scaling, in base 2, of a sum of products of reals. -/
theorem scaled_sum (a b : Fin 64 → ℝ) :
    ((∑ d, (a d : EReal) * (b d : EReal)) * (((1 / 8) * (Real.log 2)⁻¹ : ℝ) : EReal) : EReal) = (((∑ d, a d * b d) * (1 / 8) / Real.log 2 : ℝ) : EReal) := by
  rw [Finset.sum_congr rfl fun d _ => (EReal.coe_mul (a d) (b d)).symm, ← coe_sum, ← EReal.coe_mul]
  congr 1
  rw [div_eq_mul_inv]; ring

end Cert.Proof.Stick

end
-- ==== Proof.Stick.Array.lean ====
/-
  The array the stick-breaking kernel leaves, over real queries and keys.
-/
module

public import proofs.«01_k».proof.Proof.Stick.Walk
public import proofs.«01_k».proof.Proof.Stick.Spec
public import proofs.«01_k».proof.Proof.Stick.KernelIdeal.Frame
public import Idealize.ShloMosaic.Lib.Pipeline.ValueKit

@[expose] public section

set_option maxRecDepth 16384

noncomputable section

namespace Cert.Proof.Stick.Array

open Cert.KernelIdeal Cert.KernelIdeal.Gen Idealize.ShloMosaic Idealize.ShloMosaic.TcCoe Cert.Proof.Stick.Math
open Cert.Proof.Stick Cert.Proof.Stick.Walk Cert.Proof.Stick.KernelIdeal

variable (m : (ℓ : Loc nD τ sig) → Buf (Elt Ideal) ℓ)

/-- The windows' block indices at every grid point, and the grid's bounds. -/
theorem idx : ∀ t : Fin (cfg0 (F := Ideal)).N,
    win0_0.index t = ![(grid0.coords t 0).val * 32 + (grid0.coords t 2).val, (grid0.coords t 1).val]
    ∧ win0_1.index t = ![(grid0.coords t 0).val, (grid0.coords t 1).val]
    ∧ win0_2.index t = ![(grid0.coords t 0).val, 8 + (grid0.coords t 1).val]
    ∧ win0_3.index t = ![(grid0.coords t 0).val * 32 + (grid0.coords t 2).val, (grid0.coords t 1).val] :=
  (by decide +kernel : ∀ t : Fin grid0.N, _)

theorem bounds (t : Fin (cfg0 (F := Ideal)).N) : (grid0.coords t 0).val < 2 ∧ (grid0.coords t 1).val < 8 ∧ (grid0.coords t 2).val < 32 :=
  ⟨(grid0.coords t 0).isLt, (grid0.coords t 1).isLt, (grid0.coords t 2).isLt⟩

section

variable (c : Dev nD) (t : Fin (cfg0 (F := Ideal)).N) (Q K : ℕ → ℕ → ℝ) (W : ℕ → ℕ → EReal)
  (hQ : ∀ (r : Fin 16384) (l : Fin 1024), (m ((c : Thread nD τ).loc main_arg0) : FVec Ideal S16384x1024 .bf16) (ix2 r l) = (Q r.val l.val : EReal))
  (hK : ∀ (r : Fin 16384) (l : Fin 2048), l.val < 1024 → (m ((c : Thread nD τ).loc main_arg1) : FVec Ideal S16384x2048 .bf16) (ix2 r l) = (K r.val l.val : EReal))
  (hW : ∀ (r : Fin 16384) (l : Fin 2048), (m ((c : Thread nD τ).loc main_arg1) : FVec Ideal S16384x2048 .bf16) (ix2 r l) = W r.val l.val)

include hQ in
/-- The queries' block. -/
theorem q_blk (r : Fin 256) (l : Fin 128) : (iblk m c 0 t : FVec Ideal S256x128 .bf16) (ix2 r l)
    = (Q (((grid0.coords t 0).val * 32 + (grid0.coords t 2).val) * 256 + r.val) ((grid0.coords t 1).val * 128 + l.val) : EReal) := by
  obtain ⟨h0, h1, h2⟩ := bounds t
  refine Eq.trans ?_ (hQ ⟨((grid0.coords t 0).val * 32 + (grid0.coords t 2).val) * 256 + r.val, by omega⟩ ⟨(grid0.coords t 1).val * 128 + l.val, by omega⟩)
  blk_ext [iblk, V, idx t]

include hK in
/-- The keys' block. -/
theorem k_blk (r : Fin 8192) (l : Fin 128) : (iblk m c 1 t : FVec Ideal S8192x128 .bf16) (ix2 r l)
    = (K ((grid0.coords t 0).val * 8192 + r.val) ((grid0.coords t 1).val * 128 + l.val) : EReal) := by
  obtain ⟨h0, h1, h2⟩ := bounds t
  refine Eq.trans ?_ (hK ⟨(grid0.coords t 0).val * 8192 + r.val, by omega⟩ ⟨(grid0.coords t 1).val * 128 + l.val, by omega⟩ (by show (grid0.coords t 1).val * 128 + l.val < 1024; omega))
  blk_ext [iblk, V, idx t]

include hW in
/-- The values' block. -/
theorem v_blk (r : Fin 8192) (l : Fin 128) : (iblk m c 2 t : FVec Ideal S8192x128 .bf16) (ix2 r l)
    = W ((grid0.coords t 0).val * 8192 + r.val) ((8 + (grid0.coords t 1).val) * 128 + l.val) := by
  obtain ⟨h0, h1, h2⟩ := bounds t
  refine Eq.trans ?_ (hW ⟨(grid0.coords t 0).val * 8192 + r.val, by omega⟩ ⟨(8 + (grid0.coords t 1).val) * 128 + l.val, by omega⟩)
  blk_ext [iblk, V, idx t]

/-- The body's query load takes the whole block. -/
theorem qBlk_eq (x : FVec Ideal S256x128 .bf16) : qBlk (F := Ideal) x = x := by
  funext y
  unfold qBlk VecWindow.window
  refine congrArg x (funext fun a => Fin.ext ?_)
  match a with
  | ⟨0, _⟩ => show 0 + 1 * (y 0).val = (y 0).val; omega
  | ⟨1, _⟩ => show 0 + 1 * (y 1).val = (y 1).val; omega

/-- The first head's queries: the block's first 64 lanes. -/
theorem pay3_apply (x : FVec Ideal S256x128 .bf16) (r : Fin 256) (l : Fin 128) : (k0_pay3 (F := Ideal) (qBlk (F := Ideal) x) (ix2 r l) : EReal) = if l.val < 64 then (x (ix2 r l) : EReal) else 0 := by
  have hl := l.isLt
  rw [qBlk_eq]
  pointwise [k0_pay3, k0_pay2]
  rw [show 64#32 = BitVec.ofNat 32 64 from rfl, WordCmp.cmpi_slt_ofNat (by omega) (by omega)]
  by_cases h : l.val < 64 <;> simp only [h, decide_true, decide_false, if_true, if_false] <;> rfl

/-- The second head's: its last 64. -/
theorem pay4_apply (x : FVec Ideal S256x128 .bf16) (r : Fin 256) (l : Fin 128) : (k0_pay4 (F := Ideal) (qBlk (F := Ideal) x) (ix2 r l) : EReal) = if l.val < 64 then 0 else (x (ix2 r l) : EReal) := by
  have hl := l.isLt
  rw [qBlk_eq]
  pointwise [k0_pay4, k0_pay2]
  rw [show 64#32 = BitVec.ofNat 32 64 from rfl, WordCmp.cmpi_slt_ofNat (by omega) (by omega)]
  by_cases h : l.val < 64 <;> simp only [h, decide_true, decide_false, if_true, if_false] <;> rfl

include hQ hK in
theorem scores0 : Scores (iblk m c 1 t) (k0_pay3 (qBlk (iblk m c 0 t)))
    (fun r => score Q K (grid0.coords t 0).val (2 * (grid0.coords t 1).val) (256 * (grid0.coords t 2).val + r.val)) := by
  intro r j
  refine Eq.trans (congrArg (· * _) (sum_low _ fun l hl => ?_)) ?_
  · rw [pay3_apply, if_neg (by omega), zero_mul]
  refine Eq.trans (congrArg (· * _) (Finset.sum_congr rfl fun d _ => ?_)) (scaled_sum
    (fun d => Q ((grid0.coords t 0).val * 8192 + (256 * (grid0.coords t 2).val + r.val)) (2 * (grid0.coords t 1).val * 64 + d.val))
    (fun d => K ((grid0.coords t 0).val * 8192 + j.val) (2 * (grid0.coords t 1).val * 64 + d.val)))
  rw [pay3_apply, if_pos d.isLt]
  refine congrArg₂ (· * ·) ((q_blk m c t Q hQ r _).trans ?_) ((k_blk m c t K hK j _).trans ?_)
  · congr 2 <;> (try dsimp only) <;> omega
  · congr 2 <;> (try dsimp only) <;> omega

include hQ hK in
theorem scores1 : Scores (iblk m c 1 t) (k0_pay4 (qBlk (iblk m c 0 t)))
    (fun r => score Q K (grid0.coords t 0).val (2 * (grid0.coords t 1).val + 1) (256 * (grid0.coords t 2).val + r.val)) := by
  intro r j
  refine Eq.trans (congrArg (· * _) (sum_high _ fun l hl => ?_)) ?_
  · rw [pay4_apply, if_pos hl, zero_mul]
  refine Eq.trans (congrArg (· * _) (Finset.sum_congr rfl fun d _ => ?_)) (scaled_sum
    (fun d => Q ((grid0.coords t 0).val * 8192 + (256 * (grid0.coords t 2).val + r.val)) ((2 * (grid0.coords t 1).val + 1) * 64 + d.val))
    (fun d => K ((grid0.coords t 0).val * 8192 + j.val) ((2 * (grid0.coords t 1).val + 1) * 64 + d.val)))
  rw [pay4_apply, if_neg (by simp)]
  refine congrArg₂ (· * ·) ((q_blk m c t Q hQ r _).trans ?_) ((k_blk m c t K hK j _).trans ?_)
  · congr 2 <;> (try dsimp only) <;> omega
  · congr 2 <;> (try dsimp only) <;> omega

include hQ hK hW in
/-- The output block at a grid point. -/
theorem block (r : Fin 256) (l : Fin 128) : outF (grid0.coords t) (iblk m c 0 t) (iblk m c 1 t) (iblk m c 2 t) (ix2 r l)
    = out Q K W (((grid0.coords t 0).val * 32 + (grid0.coords t 2).val) * 256 + r.val) ((grid0.coords t 1).val * 128 + l.val) := by
  obtain ⟨h0, h1, h2⟩ := bounds t
  rw [outF_apply _ (scores0 m c t Q K hQ hK) (scores1 m c t Q K hQ hK)]
  unfold out
  have e1 : (((grid0.coords t 0).val * 32 + (grid0.coords t 2).val) * 256 + r.val) % 8192 = 256 * (grid0.coords t 2).val + r.val := by omega
  have e2 : (((grid0.coords t 0).val * 32 + (grid0.coords t 2).val) * 256 + r.val) / 8192 = (grid0.coords t 0).val := by omega
  rw [e1, e2]
  have hv : ∀ j < 8192, vAt (iblk m c 2 t) j l = W ((grid0.coords t 0).val * 8192 + j) (1024 + ((grid0.coords t 1).val * 128 + l.val)) := fun j hj => by
    rw [vAt, dif_pos hj]
    refine (v_blk m c t W hW _ _).trans ?_
    congr 1; omega
  split
  · next h =>
    rw [show ((grid0.coords t 1).val * 128 + l.val) / 64 = 2 * (grid0.coords t 1).val by omega]
    exact att_congr _ _ _ _ _ (fun _ _ => rfl) hv
  · next h =>
    rw [show ((grid0.coords t 1).val * 128 + l.val) / 64 = 2 * (grid0.coords t 1).val + 1 by omega]
    exact att_congr _ _ _ _ _ (fun _ _ => rfl) hv

include hQ hK hW in
/-- The array after the run. -/
theorem final : (dats m 0 c).arrAt 3 (cfg0 (F := Ideal)).N = (fun i : S16384x1024.Idx => out Q K W (i 0).val (i 1).val) := by
  refine (dats m 0 c).arrAt_eq_of_covers 3 _ (by decide +kernel) fun t _ y => ?_
  blk_simp
  rw [after0_3]
  refine Eq.trans ?_ ((block m c t Q K W hQ hK hW (y 0) (y 1)).trans ?_)
  · exact congrArg _ (by blk_ext)
  · blk_simp [idx t]

end

end Cert.Proof.Stick.Array

end
-- ==== Proof.Stick.Reference.lean ====
/-
  The stick-breaking reference's result, over real queries and keys: stage by stage, read at an index.
-/
module

public import proofs.«01_k».proof.Proof.Gen.ReferenceIdeal.Run
public import proofs.«01_k».proof.Proof.Stick.Spec
public import Idealize.ShloMosaic.Lib.Pointwise
public import Idealize.ShloMosaic.Lib.WordCmp

@[expose] public section

set_option maxRecDepth 16384

noncomputable section

namespace Cert.Proof.Stick.Reference

open Cert.ReferenceIdeal Cert.ReferenceIdeal.Gen Idealize.ShloMosaic Idealize.ShloMosaic.TcCoe Cert.Proof.Stick.Math Cert.Proof.Stick

variable (X : FVec Ideal S16384x1024 .bf16) (Y : FVec Ideal S16384x2048 .bf16)

/-- The queries, the keys and the values, by sequence, position, head and lane. -/
def qT : FVec Ideal S2x8192x16x64 .f32 := shapeCast _ (extf .f32 X bitsLt_bf16_f32) shapeCasts_S16384x1024_S2x8192x16x64
def kT : FVec Ideal S2x8192x16x64 .f32 :=
  shapeCast _ (extractStridedSlice S2x8192x1024 ![0, 0, 0] (shapeCast _ (extf .f32 Y bitsLt_bf16_f32) shapeCasts_S16384x2048_S2x8192x2048) slices_S2x8192x2048_S2x8192x1024_0_0_0) shapeCasts_S2x8192x1024_S2x8192x16x64
def vT : FVec Ideal S2x8192x16x64 .f32 :=
  shapeCast _ (extractStridedSlice S2x8192x1024 ![0, 0, 1024] (shapeCast _ (extf .f32 Y bitsLt_bf16_f32) shapeCasts_S16384x2048_S2x8192x2048) slices_S2x8192x2048_S2x8192x1024_0_0_1024) shapeCasts_S2x8192x1024_S2x8192x16x64

/-- The scores. -/
def zT : FVec Ideal S2x16x8192x8192 .f32 :=
  mulf (Host.dotGeneral dot_S2x8192x16x64_S2x8192x16x64_S2x16x8192x8192_3_3_1_1_02_02 none (qT X) (kT Y)) (broadcastInDim S2x16x8192x8192 ![] bcast_S_S2x16x8192x8192 (constant S_ .f32 0x3E000000#32))

/-- The keys before the query. -/
def mT : IVec S2x16x8192x8192 1 :=
  broadcastInDim S2x16x8192x8192 ![2, 3] bcast_S8192x8192_S2x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- Zero everywhere. -/
def oT : FVec Ideal S2x16x8192x8192 .f32 := broadcastInDim S2x16x8192x8192 ![] bcast_S_S2x16x8192x8192 (constant S_ .f32 0x00000000#32)

/-- The logarithm of the logistic function, elementwise. -/
def logT (Z : FVec Ideal S2x16x8192x8192 .f32) : FVec Ideal S2x16x8192x8192 .f32 :=
  Host.negf (select (cmpf .une (subf (Host.negf Z) oT) (subf (Host.negf Z) oT)) (addf (Host.negf Z) oT) (addf (maximumf (Host.negf Z) oT) (Host.log1p (Host.exp (Host.negf (Host.absf (subf (Host.negf Z) oT)))))))

/-- The masked logarithms of what each key leaves over. -/
def lrT (Z : FVec Ideal S2x16x8192x8192 .f32) : FVec Ideal S2x16x8192x8192 .f32 := select mT (subf (logT Z) Z) oT

/-- Their sums from each key on. -/
def sufT (L : FVec Ideal S2x16x8192x8192 .f32) : FVec Ideal S2x16x8192x8192 .f32 :=
  Host.reduceWindowAdd ![1, 1, 1, 8192] ![1, 1, 1, 1] ![0, 0, 0, 0] ![0, 0, 0, 8191] L (broadcastInDim S_ ![] bcast_S_S_ (constant S_ .f32 0x00000000#32)) reduceWindows_S2x16x8192x8192_S2x16x8192x8192_w1s1p0_0_w1s1p0_0_w1s1p0_0_w8192s1p0_8191 h_S_

/-- The weights. -/
def wT (Z : FVec Ideal S2x16x8192x8192 .f32) : FVec Ideal S2x16x8192x8192 .f32 :=
  select mT (Host.exp (select mT (addf (logT Z) (subf (sufT (lrT Z)) (lrT Z))) oT)) oT

/-- The weighted sums, back in rows and lanes. -/
def resT (v : FVec Ideal S2x8192x16x64 .f32) (w : FVec Ideal S2x16x8192x8192 .f32) : FVec Ideal S16384x1024 .bf16 :=
  truncf .bf16 (shapeCast _ (transpose S2x8192x16x64 [0, 3, 1, 2] (Host.dotGeneral dot_S2x8192x16x64_S2x16x8192x8192_S2x16x64x8192_1_3_3_2_02_01 none v w) transposes_S2x16x64x8192_S2x8192x16x64_0_3_1_2) shapeCasts_S2x8192x16x64_S16384x1024) bitsLt_bf16_f32

theorem res_eq (m : (ℓ : Loc nD τ sig) → Buf (Elt Ideal) ℓ) (c : Dev nD) :
    Value.res_main_v29 m c = resT (vT (m ((c.tc : Thread nD τ).loc main_arg1))) (wT (zT (m ((c.tc : Thread nD τ).loc main_arg0)) (m ((c.tc : Thread nD τ).loc main_arg1)))) := rfl

section

variable (Q K : ℕ → ℕ → ℝ) (W : ℕ → ℕ → EReal)
  (hQ : ∀ (r : Fin 16384) (l : Fin 1024), X (ix2 r l) = (Q r.val l.val : EReal))
  (hK : ∀ (r : Fin 16384) (l : Fin 2048), l.val < 1024 → Y (ix2 r l) = (K r.val l.val : EReal))
  (hW : ∀ (r : Fin 16384) (l : Fin 2048), Y (ix2 r l) = W r.val l.val)

include hQ in
theorem q_apply (b : Fin 2) (t : Fin 8192) (h : Fin 16) (d : Fin 64) : qT X (ix4 b t h d) = (Q (b.val * 8192 + t.val) (h.val * 64 + d.val) : EReal) := by
  pointwise [qT]
  exact hQ _ _

include hK in
theorem k_apply (b : Fin 2) (t : Fin 8192) (h : Fin 16) (d : Fin 64) : kT Y (ix4 b t h d) = (K (b.val * 8192 + t.val) (h.val * 64 + d.val) : EReal) := by
  pointwise [kT]
  exact hK _ _ (by show h.val * 64 + d.val < 1024; omega)

include hW in
theorem v_apply (b : Fin 2) (t : Fin 8192) (h : Fin 16) (d : Fin 64) : vT Y (ix4 b t h d) = W (b.val * 8192 + t.val) (1024 + (h.val * 64 + d.val)) := by
  pointwise [vT]
  exact hW _ _

/-- The printed scale is an eighth. -/
theorem eighth : Ideal.ofBits .f32 0x3E000000#32 = ((1 / 8 : ℝ) : EReal) := by
  have e : (0x3E000000#32).extractLsb' 31 1 = 0#1 := by decide
  have e2 : 1040187392 >>> 23 % 256 = 124 := by decide
  simp [Ideal.ofBits, Ideal.ieee]
  norm_num [e, e2]
  rw [← EReal.coe_mul]
  norm_num

include hQ hK in
theorem z_apply (b : Fin 2) (h : Fin 16) (t j : Fin 8192) : zT X Y (ix4 b h t j) = (score Q K b.val h.val t.val j.val : EReal) := by
  pointwise [zT]
  rw [Finset.sum_congr rfl fun d _ => (congrArg₂ (· * ·) (q_apply X Q hQ b t h d) (k_apply Y K hK b j h d)).trans (EReal.coe_mul _ _).symm, ← coe_sum, eighth, ← EReal.coe_mul]
  rfl

theorem m_apply (b : Fin 2) (h : Fin 16) (t j : Fin 8192) : mT (ix4 b h t j) = BitVec.ofBool (decide (j.val < t.val)) := by
  pointwise [mT]
  exact WordCmp.cmpi_slt_ofNat (by omega) (by omega)

theorem o_apply (i : S2x16x8192x8192.Idx) : oT i = (0 : EReal) := by
  pointwise [oT]

theorem log_apply (Z : FVec Ideal S2x16x8192x8192 .f32) (i : S2x16x8192x8192.Idx) (z : ℝ) (hz : Z i = (z : EReal)) : logT Z i = (lb z : EReal) := by
  pointwise [logT, oT]
  rw [if_neg (by simp), hz, ← EReal.coe_neg, absf_coe, abs_neg, ← EReal.coe_neg, Ideal.exp_coe, ← EReal.coe_zero, ← coe_max]
  show -(((max (-z) 0 : ℝ) : EReal) + Ideal.log (1 + ((Real.exp (-|z|) : ℝ) : EReal))) = _
  rw [log_one_add _ (Real.exp_pos _).le, ← EReal.coe_add, ← EReal.coe_neg]
  congr 1
  unfold lb
  have : max (-z) 0 = -min z 0 := by rw [← neg_zero, max_neg_neg, neg_zero]
  rw [this]; ring

theorem foldl_sum {ι : Type} (f : ι → EReal) : ∀ (l : List ι) (a : EReal), l.foldl (fun r n => r + f n) a = a + (l.map f).sum
  | [], a => (add_zero a).symm
  | x :: l, a => by rw [List.foldl_cons, foldl_sum f l, List.map_cons, List.sum_cons, add_assoc]

/-- The window's positions are the offsets along its last axis. -/
def winEquiv : Fin 8192 ≃ (⟨4, ![1, 1, 1, 8192]⟩ : Shape).Idx where
  toFun n := ix4 0 0 0 n
  invFun i := i 3
  left_inv _ := rfl
  right_inv i := by
    funext a
    refine Fin.ext ?_
    match a with
    | ⟨0, _⟩ => have : (i 0).val < 1 := (i 0).isLt; show 0 = (i 0).val; omega
    | ⟨1, _⟩ => have : (i 1).val < 1 := (i 1).isLt; show 0 = (i 1).val; omega
    | ⟨2, _⟩ => have : (i 2).val < 1 := (i 2).isLt; show 0 = (i 2).val; omega
    | ⟨3, _⟩ => rfl

theorem suf_apply (L : FVec Ideal S2x16x8192x8192 .f32) (b : Fin 2) (h : Fin 16) (t j : Fin 8192) :
    sufT L (ix4 b h t j) = ∑ n : Fin 8192, if hn : j.val + n.val < 8192 then (L (ix4 b h t ⟨j.val + n.val, hn⟩) : EReal) else 0 := by
  have h0 : (broadcastInDim S_ ![] bcast_S_S_ (constant (F := Ideal) S_ .f32 0x00000000#32) (Shape.Idx.first h_S_) : EReal) = 0 := by pointwise
  unfold sufT Host.reduceWindowAdd
  rw [Ideal.hostReduceWindowAdd_def, h0]
  unfold Ideal.hostReduceWindowAdd Host.reduceWindow
  refine (foldl_sum _ _ _).trans ?_
  rw [zero_add, ← Fin.sum_univ_def]
  refine (Fintype.sum_equiv (winEquiv.trans (⟨4, ![1, 1, 1, 8192]⟩ : Shape).rowMajor) _ _ fun n => ?_).symm
  have hw : (⟨4, ![1, 1, 1, 8192]⟩ : Shape).rowMajor.symm ((winEquiv.trans (⟨4, ![1, 1, 1, 8192]⟩ : Shape).rowMajor) n) = ix4 0 0 0 n := Equiv.symm_apply_apply _ _
  simp only [hw]
  by_cases hn : j.val + n.val < 8192
  · rw [dif_pos hn, dif_pos]
    · refine congrArg L (funext fun a => Fin.ext ?_)
      match a with
      | ⟨0, _⟩ => show b.val = b.val * 1 + 0 - 0; omega
      | ⟨1, _⟩ => show h.val = h.val * 1 + 0 - 0; omega
      | ⟨2, _⟩ => show t.val = t.val * 1 + 0 - 0; omega
      | ⟨3, _⟩ => show j.val + n.val = j.val * 1 + n.val - 0; omega
    · intro a
      match a with
      | ⟨0, _⟩ => show 0 ≤ b.val * 1 + 0 ∧ b.val * 1 + 0 - 0 < 2; omega
      | ⟨1, _⟩ => show 0 ≤ h.val * 1 + 0 ∧ h.val * 1 + 0 - 0 < 16; omega
      | ⟨2, _⟩ => show 0 ≤ t.val * 1 + 0 ∧ t.val * 1 + 0 - 0 < 8192; omega
      | ⟨3, _⟩ => show 0 ≤ j.val * 1 + n.val ∧ j.val * 1 + n.val - 0 < 8192; omega
  · rw [dif_neg hn, dif_neg]
    intro hin
    have : 0 ≤ j.val * 1 + n.val ∧ j.val * 1 + n.val - 0 < 8192 := hin 3
    omega

/-- The sum of the terms from `j` on, by their distance from `j`. -/
theorem sum_from (f : ℕ → EReal) (j : ℕ) (hj : j < 8192) : (∑ n : Fin 8192, if j + n.val < 8192 then f (j + n.val) else 0) = ∑ k ∈ Finset.Ico j 8192, f k := by
  rw [Fin.sum_univ_eq_sum_range (fun n => if j + n < 8192 then f (j + n) else 0) 8192, Finset.sum_Ico_eq_sum_range, ← Finset.sum_filter]
  refine Finset.sum_congr (Finset.ext fun n => ?_) fun _ _ => rfl
  rw [Finset.mem_filter, Finset.mem_range, Finset.mem_range]
  omega

theorem lr_apply (Z : FVec Ideal S2x16x8192x8192 .f32) (z : ℕ → ℝ) (b : Fin 2) (h : Fin 16) (t j : Fin 8192) (hz : Z (ix4 b h t j) = (z j.val : EReal)) :
    lrT Z (ix4 b h t j) = (lr t.val z j.val : EReal) := by
  pointwise [lrT]
  rw [m_apply, o_apply, log_apply Z _ _ hz, hz, ← EReal.coe_sub]
  unfold lr
  by_cases hj : j.val < t.val
  · rw [if_pos hj, decide_eq_true hj]; rfl
  · rw [if_neg hj, decide_eq_false hj]; rfl

theorem sumT_apply (Z : FVec Ideal S2x16x8192x8192 .f32) (z : ℕ → ℝ) (b : Fin 2) (h : Fin 16) (t : Fin 8192) (hz : ∀ j : Fin 8192, Z (ix4 b h t j) = (z j.val : EReal)) (j : Fin 8192) :
    sufT (lrT Z) (ix4 b h t j) = (suf t.val z j.val : EReal) := by
  rw [suf_apply]
  refine Eq.trans (Finset.sum_congr rfl fun n _ => ?_) ((sum_from (fun k => (lr t.val z k : EReal)) j.val j.isLt).trans (coe_sum _ _).symm)
  split
  · exact lr_apply Z z b h t _ (hz _)
  · rfl

theorem w_apply (Z : FVec Ideal S2x16x8192x8192 .f32) (z : ℕ → ℝ) (b : Fin 2) (h : Fin 16) (t : Fin 8192) (hz : ∀ j : Fin 8192, Z (ix4 b h t j) = (z j.val : EReal)) (j : Fin 8192) :
    wT Z (ix4 b h t j) = (wt t.val z j.val : EReal) := by
  pointwise [wT]
  rw [m_apply, o_apply, log_apply Z _ _ (hz j), lr_apply Z z b h t j (hz j), sumT_apply Z z b h t hz j, ← EReal.coe_sub, ← EReal.coe_add]
  unfold wt
  have hs : suf t.val z j.val - lr t.val z j.val = suf t.val z (j.val + 1) := by
    unfold suf
    rw [Finset.sum_eq_sum_Ico_succ_bot j.isLt]; ring
  by_cases hj : j.val < t.val
  · rw [if_pos hj, decide_eq_true hj, hs]; rfl
  · rw [if_neg hj, decide_eq_false hj]; rfl

theorem res_apply (v : FVec Ideal S2x8192x16x64 .f32) (w : FVec Ideal S2x16x8192x8192 .f32) (r : Fin 16384) (l : Fin 1024) :
    resT v w (ix2 r l) = ∑ j : Fin 8192, v (ix4 ⟨r.val / 8192, by omega⟩ j ⟨l.val / 64, by omega⟩ ⟨l.val % 64, by omega⟩) * w (ix4 ⟨r.val / 8192, by omega⟩ ⟨l.val / 64, by omega⟩ ⟨r.val % 8192, by omega⟩ j) := by
  pointwise [resT]

include hQ hK hW in
/-- The reference's result. -/
theorem final : resT (vT Y) (wT (zT X Y)) = (fun i : S16384x1024.Idx => out Q K W (i 0).val (i 1).val) := by
  funext i
  have hi : i = ix2 (i 0) (i 1) := by funext a; match a with | ⟨0, _⟩ => rfl | ⟨1, _⟩ => rfl
  rw [hi]
  refine (res_apply (vT Y) (wT (zT X Y)) (i 0) (i 1)).trans ?_
  have hr : (i 0).val < 16384 := (i 0).isLt
  have hl : (i 1).val < 1024 := (i 1).isLt
  show _ = out Q K W (i 0).val (i 1).val
  unfold out att
  rw [Nat.Ico_zero_eq_range, Finset.sum_range]
  refine Finset.sum_congr rfl fun j _ => ?_
  refine (mul_comm _ _).trans (congrArg₂ (· * ·) ?_ ?_)
  · exact w_apply (zT X Y) _ _ _ _ (fun j => z_apply X Y Q K hQ hK _ _ _ j) j
  · refine (v_apply Y W hW _ _ _ _).trans ?_
    dsimp only
    congr 1; omega

end

end Cert.Proof.Stick.Reference

end
-- ==== Proof.Stick.Finite.lean ====
/-
  The precondition of the stick-breaking claim read back: every query and every key is a real number.
-/
module

public import proofs.«01_k».proof.Proof.Gen.Pre_finite
public import Idealize.ShloMosaic.Lib.ReduceAll
public import Idealize.ShloMosaic.Lib.Pointwise

@[expose] public section

set_option maxRecDepth 16384

noncomputable section

namespace Cert.Proof.Stick.Finite

open Cert.Pre_finite Idealize.ShloMosaic

/-- An extended real whose absolute value is below `+∞` is a real. -/
theorem real_of_abs_lt (x : EReal) (h : FloatOps.cmpf (F := Ideal) (φ := .f32) .olt (FloatOps.absf (F := Ideal) (φ := .f32) x) (Scalar.ofBits (F := Ideal) .f32 0x7F800000#32) = 1#1) :
    x = (x.toReal : EReal) := by
  have e : (Scalar.ofBits (F := Ideal) .f32 0x7F800000#32 : EReal) = ⊤ := by
    show Ideal.ofBits .f32 0x7F800000#32 = ⊤
    simp [Ideal.ofBits, Ideal.ieee]
  rw [e] at h
  have h' : BitVec.ofBool (decide (max x (-x) < ⊤)) = 1#1 := h
  have h'' : max x (-x) < ⊤ := by
    by_contra hn
    rw [decide_eq_false hn] at h'
    exact absurd h' (by decide)
  obtain ⟨h1, h2⟩ := max_lt_iff.mp h''
  refine (EReal.coe_toReal h1.ne ?_).symm
  rintro rfl
  exact absurd h2 (by simp)

variable (X : FVec Ideal S16384x1024 .bf16) (Y : FVec Ideal S16384x2048 .bf16) (h : fn (F := Ideal) X Y = fun _ => 1#1)

instance : Subsingleton S_.Idx := ⟨fun a b => funext fun i => i.elim0⟩

include h in
theorem both :
    Host.reduce IntOp.andi (cmpf .olt (Host.absf (extf .f32 X Gen.bitsLt_bf16_f32)) (broadcastInDim S16384x1024 ![] Gen.bcast_S_S16384x1024 (constant (F := Ideal) S_ .f32 0x7F800000#32)))
        (constantI S_ 1 1#1) Gen.reducesTo_S16384x1024_S_d0_1 Gen.h_S_ (fun a => a.elim0) = 1#1
    ∧ Host.reduce IntOp.andi (cmpf .olt (Host.absf (extractStridedSlice S16384x1024 ![0, 0] (extf .f32 Y Gen.bitsLt_bf16_f32) Gen.slices_S16384x2048_S16384x1024_0_0))
          (broadcastInDim S16384x1024 ![] Gen.bcast_S_S16384x1024 (constant (F := Ideal) S_ .f32 0x7F800000#32)))
        (constantI S_ 1 1#1) Gen.reducesTo_S16384x1024_S_d0_1 Gen.h_S_ (fun a => a.elim0) = 1#1 :=
  IntOp.andi_eq_one.1 (congrFun h (fun a => a.elim0))

include h in
/-- Every query is a real. -/
theorem query_real (r : Fin 16384) (l : Fin 1024) : X (ix2 r l) = ((X (ix2 r l) : EReal).toReal : EReal) :=
  real_of_abs_lt _ (Host.reduce_andi_all _ _ _ _ _ (both X Y h).1 (ix2 r l))

include h in
/-- Every key is a real. -/
theorem key_real (r : Fin 16384) (l : Fin 2048) (hl : l.val < 1024) : Y (ix2 r l) = ((Y (ix2 r l) : EReal).toReal : EReal) := by
  have e := Host.reduce_andi_all _ _ _ _ _ (both X Y h).2 (ix2 r (⟨l.val, hl⟩ : Fin 1024))
  have e2 : (extractStridedSlice S16384x1024 ![0, 0] (extf (F := Ideal) .f32 Y Gen.bitsLt_bf16_f32) Gen.slices_S16384x2048_S16384x1024_0_0) (ix2 r (⟨l.val, hl⟩ : Fin 1024)) = Y (ix2 r l) := by
    pointwise
    try rfl
  refine real_of_abs_lt _ ?_
  rw [← e2]
  exact e

end Cert.Proof.Stick.Finite

end
-- ==== Proof.Stick.Value.lean ====
/-
  The stick-breaking kernel and its reference end with equal results, every query and key being a real number.
-/
module

public import proofs.«01_k».proof.Defs
public import proofs.«01_k».proof.Proof.Stick.Array
public import proofs.«01_k».proof.Proof.Stick.Reference
public import proofs.«01_k».proof.Proof.Stick.Finite

@[expose] public section

set_option maxRecDepth 16384

noncomputable section

namespace Cert.Proof.Stick

open Idealize.ShloMosaic Idealize.ShloMosaic.TcCoe Idealize.SL.Sem

/-- An array's element by row and lane numbers, 0 outside. -/
def at2 {n k : ℕ} (x : (⟨2, ![n, k]⟩ : Shape).Idx → EReal) (r l : ℕ) : EReal := if h : r < n ∧ l < k then x (ix2 ⟨r, h.1⟩ ⟨l, h.2⟩) else 0

theorem at2_eq {n k : ℕ} (x : (⟨2, ![n, k]⟩ : Shape).Idx → EReal) (r : Fin n) (l : Fin k) : at2 x r.val l.val = x (ix2 r l) := by
  rw [at2, dif_pos ⟨r.isLt, l.isLt⟩]

theorem algebraic : Cert.algebraic_KernelIdeal_ReferenceIdeal_pre_finite := by
  intro m g m' g' hpre hagree
  have hQ : ∀ c : Dev Cert.KernelIdeal.nD, ∀ (r : Fin 16384) (l : Fin 1024), (m ((c.tc : Thread Cert.KernelIdeal.nD Cert.KernelIdeal.τ).loc Cert.KernelIdeal.main_arg0) : FVec Ideal Cert.KernelIdeal.S16384x1024 .bf16) (ix2 r l)
      = ((at2 (m ((c.tc : Thread Cert.KernelIdeal.nD Cert.KernelIdeal.τ).loc Cert.KernelIdeal.main_arg0)) r.val l.val).toReal : EReal) := fun c r l => by
    rw [at2_eq]
    exact Finite.query_real _ _ (hpre c) r l
  have hK : ∀ c : Dev Cert.KernelIdeal.nD, ∀ (r : Fin 16384) (l : Fin 2048), l.val < 1024 → (m ((c.tc : Thread Cert.KernelIdeal.nD Cert.KernelIdeal.τ).loc Cert.KernelIdeal.main_arg1) : FVec Ideal Cert.KernelIdeal.S16384x2048 .bf16) (ix2 r l)
      = ((at2 (m ((c.tc : Thread Cert.KernelIdeal.nD Cert.KernelIdeal.τ).loc Cert.KernelIdeal.main_arg1)) r.val l.val).toReal : EReal) := fun c r l hl => by
    rw [at2_eq]
    exact Finite.key_real _ _ (hpre c) r l hl
  have hW : ∀ c : Dev Cert.KernelIdeal.nD, ∀ (r : Fin 16384) (l : Fin 2048), (m ((c.tc : Thread Cert.KernelIdeal.nD Cert.KernelIdeal.τ).loc Cert.KernelIdeal.main_arg1) : FVec Ideal Cert.KernelIdeal.S16384x2048 .bf16) (ix2 r l)
      = at2 (m ((c.tc : Thread Cert.KernelIdeal.nD Cert.KernelIdeal.τ).loc Cert.KernelIdeal.main_arg1)) r.val l.val := fun c r l => (at2_eq _ r l).symm
  refine ⟨_, KernelIdeal.run_result m g, (θ_run _ _ _).mono (fun r h c => ⟨(h c).1.trans ?_, (h c).2⟩) (Cert.ReferenceIdeal.Value.run m' g')⟩
  rw [Reference.res_eq, (hagree c).1, (hagree c).2]
  exact (Reference.final _ _ (fun r l => (at2 (m (c.tc.loc Cert.KernelIdeal.main_arg0)) r l).toReal) (fun r l => (at2 (m (c.tc.loc Cert.KernelIdeal.main_arg1)) r l).toReal) _ (hQ c) (hK c) (hW c)).trans
    (Array.final m c (fun r l => (at2 (m (c.tc.loc Cert.KernelIdeal.main_arg0)) r l).toReal) (fun r l => (at2 (m (c.tc.loc Cert.KernelIdeal.main_arg1)) r l).toReal) _ (hQ c) (hK c) (hW c)).symm

end Cert.Proof.Stick

end
-- ==== Proof.Layer.Swiglu.lean ====
/-
  The dense feed-forward layers: the scaled rows through the gated linear unit, added to the residual.
-/
module

public import proofs.«01_k».proof.Defs
public import proofs.«01_k».proof.Proof.Gen.SwigluIdeal.Value
public import proofs.«01_k».proof.Proof.Gen.SwigluRefIdeal.Run
public import Idealize.ShloMosaic.Lib.Pipeline.ValueKit
public import Idealize.ShloMosaic.Lib.Pointwise

@[expose] public section

set_option maxRecDepth 16384

noncomputable section

namespace Cert.Proof.Swiglu

open Idealize.ShloMosaic Idealize.ShloMosaic.TcCoe Idealize.SL.Sem

section

open Cert.SwigluRefIdeal Cert.SwigluRefIdeal.Gen

variable (X0 : FVec Ideal S16384x1024 .f32) (X1 : FVec Ideal S1024 .f32) (X2 : FVec Ideal S1024x5632 .bf16) (X3 : FVec Ideal S2816x1024 .bf16)

/-- The rows scaled by the reciprocal root of their mean square and by the weights. -/
def rows : FVec Ideal S16384x1024 .f32 :=
  mulf (mulf X0 (broadcastInDim S16384x1024 ![0, 1] bcast_S16384x1_S16384x1024_0_1 (Host.rsqrt (addf (Host.divf (broadcastInDim S16384x1 ![0] bcast_S16384_S16384x1_0 (Host.reduceAdd (mulf X0 X0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 X1))

/-- The gate and the up projection side by side, and each by itself. -/
def both : FVec Ideal S16384x5632 .f32 := Host.dotGeneral dot_S16384x1024_S1024x5632_S16384x5632_1_0_0_1_n_n none (rows X0 X1) (extf .f32 X2 bitsLt_bf16_f32)
def gate : FVec Ideal S16384x2816 .f32 := extractStridedSlice S16384x2816 ![0, 0] (both X0 X1 X2) slices_S16384x5632_S16384x2816_0_0
def up : FVec Ideal S16384x2816 .f32 := extractStridedSlice S16384x2816 ![0, 2816] (both X0 X1 X2) slices_S16384x5632_S16384x2816_0_2816

/-- The reference's result. -/
def REF : FVec Ideal S16384x1024 .f32 :=
  addf X0 (Host.dotGeneral dot_S16384x2816_S2816x1024_S16384x1024_1_0_0_1_n_n none (mulf (mulf (gate X0 X1 X2) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (gate X0 X1 X2)))))) (up X0 X1 X2)) (extf .f32 X3 bitsLt_bf16_f32))

end

section

open Cert.SwigluIdeal Cert.SwigluIdeal.Gen
open Idealize.ShloMosaic.Pipeline (Dat)

variable (m : (ℓ : Loc nD τ sig) → Buf (Elt Ideal) ℓ)

/-- The blocks' places at a grid point. -/
theorem idx : ∀ t : Fin cfg0.N, win0_0.index t = ![t.val / 2, 0] ∧ win0_1.index t = ![0, 0] ∧ win0_2.index t = ![0, t.val % 2] ∧ win0_3.index t = ![0, 2 + t.val % 2]
    ∧ win0_4.index t = ![t.val % 2, 0] ∧ win0_5.index t = ![t.val / 2, 0] :=
  (by decide +kernel : ∀ t : Fin grid0.N, _)

/-- The hidden lanes' sum, the first half and the second. -/
theorem sum_halves (f : Fin 2816 → EReal) : ∑ l, f l = ∑ k : Fin 1408, f ⟨k.val, by omega⟩ + ∑ k : Fin 1408, f ⟨1408 + k.val, by omega⟩ :=
  Fin.sum_univ_add (a := 1408) (b := 1408) f

/-- A grid point's part of an element: its hidden lanes' share of the second product. -/
def part (h : FVec Ideal S512x1024 .bf16) (wg wu : FVec Ideal S1024x1408 .bf16) (wd : FVec Ideal S1408x1024 .bf16) (r : Fin 512) (l : Fin 1024) : EReal :=
  ∑ k : Fin 1408, (∑ d : Fin 1024, (h (ix2 r d) : EReal) * wg (ix2 d k)) * Ideal.div 1 (1 + Ideal.exp (-∑ d : Fin 1024, (h (ix2 r d) : EReal) * wg (ix2 d k)))
    * (∑ d : Fin 1024, (h (ix2 r d) : EReal) * wu (ix2 d k)) * wd (ix2 k l)

theorem pay3_apply (h : FVec Ideal S512x1024 .bf16) (wg wu : FVec Ideal S1024x1408 .bf16) (acc : FVec Ideal S512x1024 .f32) (wd : FVec Ideal S1408x1024 .bf16) (r : Fin 512) (l : Fin 1024) :
    (k0_pay3 (F := Ideal) h wg wu acc wd (ix2 r l) : EReal) = acc (ix2 r l) + part h wg wu wd r l := by
  unfold part
  pointwise [k0_pay3]
  simp only [zero_sub]

/-- After the first point of a pair: the scaled rows, and the residual plus the first half. -/
theorem first (c : Dev nD) (t : Fin cfg0.N) (h0 : t.val % 2 = 0) :
    (outsAt0 m c t.val t.isLt).2.1 = k0_pay1 (F := Ideal) (iblk m c 0 t) (iblk m c 1 t)
    ∧ (outsAt0 m c t.val t.isLt).2.2 = k0_pay3 (F := Ideal) (k0_pay1 (F := Ideal) (iblk m c 0 t) (iblk m c 1 t)) (iblk m c 2 t) (iblk m c 3 t) (k0_pay2 (F := Ideal) (iblk m c 0 t)) (iblk m c 4 t) := by
  rw [outsAt0_A m c t h0 (by omega)]
  constructor
  · frame_out
  · frame_out

/-- The output block after the second point of a pair: the second half added to the first. -/
theorem second (c : Dev nD) (t s : Fin cfg0.N) (h1 : t.val % 2 = 1) (hs : s.val = t.val - 1) :
    (outsAt0 m c t.val t.isLt).1 = k0_pay3 (F := Ideal) (k0_pay1 (F := Ideal) (iblk m c 0 s) (iblk m c 1 s)) (iblk m c 2 t) (iblk m c 3 t)
      (k0_pay3 (F := Ideal) (k0_pay1 (F := Ideal) (iblk m c 0 s) (iblk m c 1 s)) (iblk m c 2 s) (iblk m c 3 s) (k0_pay2 (F := Ideal) (iblk m c 0 s)) (iblk m c 4 s)) (iblk m c 4 t) := by
  obtain ⟨s, hs'⟩ := s
  obtain rfl : s = t.val - 1 := hs
  obtain ⟨e0, e1⟩ := first m c ⟨t.val - 1, hs'⟩ (by show (t.val - 1) % 2 = 0; omega)
  rw [outsAt0_B m c t (by omega) h1]
  rw [show (outsAt0 m c (t.val - 1) (Nat.lt_of_le_of_lt (Nat.sub_le _ _) t.isLt)).2.1 = _ from e0, show (outsAt0 m c (t.val - 1) (Nat.lt_of_le_of_lt (Nat.sub_le _ _) t.isLt)).2.2 = _ from e1]
  frame_out
  exact congrArg₂ (fun h acc => k0_pay3 (F := Ideal) h (iblk m c 2 t) (iblk m c 3 t) acc (iblk m c 4 t)) ((Memref.isWhole_whole _).read_unread _) ((Memref.isWhole_whole _).read_unread _)

/-- An element of the output block is the reference's at its place in the array. -/
theorem point (c : Dev nD) (t s : Fin cfg0.N) (h1 : t.val % 2 = 1) (hs : s.val = t.val - 1) (r : Fin 512) (l : Fin 1024) (R : Fin 16384) (hR : R.val = t.val / 2 * 512 + r.val) :
    (k0_pay3 (F := Ideal) (k0_pay1 (F := Ideal) (iblk m c 0 s) (iblk m c 1 s)) (iblk m c 2 t) (iblk m c 3 t)
      (k0_pay3 (F := Ideal) (k0_pay1 (F := Ideal) (iblk m c 0 s) (iblk m c 1 s)) (iblk m c 2 s) (iblk m c 3 s) (k0_pay2 (F := Ideal) (iblk m c 0 s)) (iblk m c 4 s)) (iblk m c 4 t) (ix2 r l) : EReal)
    = REF (m ((c : Thread nD τ).loc main_arg0)) (m ((c : Thread nD τ).loc main_arg1)) (m ((c : Thread nD τ).loc main_arg2)) (m ((c : Thread nD τ).loc main_arg3)) (ix2 R l) := by
  rw [pay3_apply, pay3_apply]
  unfold part
  pointwise [k0_pay1, k0_pay2, REF, gate, up, both, rows]
  rw [sum_halves, ← add_assoc]
  have e0 : s.val / 2 = t.val / 2 := by omega
  have e1 : s.val % 2 = 0 := by omega
  blk_point [iblk, V, idx t, idx s, h1, e0, e1, hR]

/-- The array after the run: the reference's term over the arguments. -/
theorem final (c : Dev nD) : (dats m 0 c).arrAt 5 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h1 : t.val % 2 = 1 := (flush0_5 t).mp hf
  blk_simp
  rw [after0_5, second m c t ⟨t.val - 1, lt_of_le_of_lt (Nat.sub_le _ _) t.isLt⟩ h1 rfl]
  have hN : t.val < 64 := lt_of_lt_of_eq t.isLt N_0
  have hy : (y 0).val < 512 := (y 0).isLt
  refine Eq.trans (congrArg _ (?_ : _ = ix2 (y 0) (y 1))) ((point m c t _ h1 rfl (y 0) (y 1) ⟨t.val / 2 * 512 + (y 0).val, by omega⟩ rfl).trans (congrArg _ ?_))
  · blk_ext
  · blk_ext [idx t]

end

/-- The kernel and the reference end with equal results. -/
theorem algebraic : Cert.algebraic_SwigluIdeal_SwigluRefIdeal := by
  intro m g m' g' hpre hagree
  refine ⟨_, Cert.SwigluIdeal.Value.run_blocks m g, (θ_run _ _ _).mono (fun r h c => ⟨(h c).1.trans ?_, (h c).2⟩) (Cert.SwigluRefIdeal.Value.run m' g')⟩
  rw [(hagree c).1, (hagree c).2.1, (hagree c).2.2.1, (hagree c).2.2.2]
  exact (final m c).symm

end Cert.Proof.Swiglu

end
-- ==== Proof.Layer.InProj.lean ====
/-
  A projection of the scaled rows.
-/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise

@[expose] public section

set_option maxRecDepth 16384

noncomputable section

namespace Cert.Proof.InProj

open Idealize.ShloMosaic Idealize.ShloMosaic.TcCoe Idealize.SL.Sem

section

open Cert.InProjRefIdeal Cert.InProjRefIdeal.Gen

variable (X0 : FVec Ideal S16384x1024 .f32) (X1 : FVec Ideal S1024 .f32) (X2 : FVec Ideal S1024x4096 .bf16)

/-- The rows scaled by the reciprocal root of their mean square and by the weights. -/
def rows : FVec Ideal S16384x1024 .f32 :=
  mulf (mulf X0 (broadcastInDim S16384x1024 ![0, 1] bcast_S16384x1_S16384x1024_0_1 (Host.rsqrt (addf (Host.divf (broadcastInDim S16384x1 ![0] bcast_S16384_S16384x1_0 (Host.reduceAdd (mulf X0 X0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 X1))

/-- The reference's result. -/
def REF : FVec Ideal S16384x4096 .f32 := Host.dotGeneral dot_S16384x1024_S1024x4096_S16384x4096_1_0_0_1_n_n none (rows X0 X1) (extf .f32 X2 bitsLt_bf16_f32)

end

section

open Cert.InProjIdeal Cert.InProjIdeal.Gen
open Idealize.ShloMosaic.Pipeline (Dat)

variable (m : (ℓ : Loc nD τ sig) → Buf (Elt Ideal) ℓ)

/-- The blocks' places at a grid point. -/
theorem idx : ∀ t : Fin cfg0.N, win0_0.index t = ![t.val / 4, 0] ∧ win0_1.index t = ![0, 0] ∧ win0_2.index t = ![0, t.val % 4] ∧ win0_3.index t = ![t.val / 4, t.val % 4] :=
  (by decide +kernel : ∀ t : Fin grid0.N, _)

/-- The carried rows after a grid point: the scaled rows of its own block, whether it wrote them or the point before did. -/
theorem carried (c : Dev nD) : ∀ (n : ℕ) (h : n < cfg0.N), (outsAt0 m c n h).2 = k0_pay1 (F := Ideal) (iblk m c 0 ⟨n, h⟩) (iblk m c 1 ⟨n, h⟩) := by
  intro n
  induction n with
  | zero =>
    intro h
    rw [outsAt0_A m c ⟨0, h⟩ (Nat.zero_mod _)]
    frame_out
  | succ n ih =>
    intro h
    by_cases h0 : (n + 1) % 4 = 0
    · rw [outsAt0_A m c ⟨n + 1, h⟩ h0]
      frame_out
    · rw [outsAt0_B m c ⟨n + 1, h⟩ h0]
      frame_out
      refine (ih (by omega)).trans ?_
      have e0 : iblk m c 0 ⟨n, by omega⟩ = iblk m c 0 ⟨n + 1, h⟩ := by
        blk_ext! [iblk, V, idx ⟨n, by omega⟩, idx ⟨n + 1, h⟩]
      have e1 : iblk m c 1 ⟨n, by omega⟩ = iblk m c 1 ⟨n + 1, h⟩ := by
        blk_ext! [iblk, V, idx ⟨n, by omega⟩, idx ⟨n + 1, h⟩]
      rw [e0, e1]

/-- The output block at a grid point: the scaled rows of its block times its block of the matrix. -/
theorem written (c : Dev nD) (t : Fin cfg0.N) : (outsAt0 m c t.val t.isLt).1 = k0_pay2 (F := Ideal) (k0_pay1 (F := Ideal) (iblk m c 0 t) (iblk m c 1 t)) (iblk m c 2 t) := by
  have hc := carried m c t.val t.isLt
  by_cases h0 : t.val % 4 = 0
  · rw [outsAt0_A m c t h0]
    frame_out
  · rw [outsAt0_B m c t h0] at hc ⊢
    have hp : (outsAt0 m c (t.val - 1) (Nat.lt_of_le_of_lt (Nat.sub_le _ _) t.isLt)).2 = k0_pay1 (F := Ideal) (iblk m c 0 t) (iblk m c 1 t) := hc
    rw [hp]
    frame_out
    exact congrArg (k0_pay2 (F := Ideal) · (iblk m c 2 t)) ((Memref.isWhole_whole _).read_unread _)

/-- The array after the run: the reference's term over the arguments. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, written]
  pointwise [k0_pay2, k0_pay1, REF, rows]
  blk_point [iblk, V, idx t]

end

/-- The kernel and the reference end with equal results. -/
theorem algebraic : Cert.algebraic_InProjIdeal_InProjRefIdeal := by
  intro m g m' g' hpre hagree
  refine ⟨_, Cert.InProjIdeal.Value.run_blocks m g, (θ_run _ _ _).mono (fun r h c => ⟨(h c).1.trans ?_, (h c).2⟩) (Cert.InProjRefIdeal.Value.run m' g')⟩
  rw [(hagree c).1, (hagree c).2.1, (hagree c).2.2]
  exact (final m c).symm

end Cert.Proof.InProj

end
-- ==== Proof.Layer.KvProj.lean ====
/-
  A projection of the scaled rows.
-/
module

public import proofs.«01_k».proof.Defs
public import proofs.«01_k».proof.Proof.Gen.KvProjIdeal.Value
public import proofs.«01_k».proof.Proof.Gen.KvProjRefIdeal.Run
public import Idealize.ShloMosaic.Lib.Pipeline.ValueKit
public import Idealize.ShloMosaic.Lib.Pointwise

@[expose] public section

set_option maxRecDepth 16384

noncomputable section

namespace Cert.Proof.KvProj

open Idealize.ShloMosaic Idealize.ShloMosaic.TcCoe Idealize.SL.Sem

section

open Cert.KvProjRefIdeal Cert.KvProjRefIdeal.Gen

variable (X0 : FVec Ideal S16384x1024 .f32) (X1 : FVec Ideal S1024 .f32) (X2 : FVec Ideal S1024x2048 .bf16)

/-- The rows scaled by the reciprocal root of their mean square and by the weights. -/
def rows : FVec Ideal S16384x1024 .f32 :=
  mulf (mulf X0 (broadcastInDim S16384x1024 ![0, 1] bcast_S16384x1_S16384x1024_0_1 (Host.rsqrt (addf (Host.divf (broadcastInDim S16384x1 ![0] bcast_S16384_S16384x1_0 (Host.reduceAdd (mulf X0 X0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 X1))

/-- The reference's result. -/
def REF : FVec Ideal S16384x2048 .bf16 := truncf .bf16 (Host.dotGeneral dot_S16384x1024_S1024x2048_S16384x2048_1_0_0_1_n_n none (rows X0 X1) (extf .f32 X2 bitsLt_bf16_f32)) bitsLt_bf16_f32

end

section

open Cert.KvProjIdeal Cert.KvProjIdeal.Gen
open Idealize.ShloMosaic.Pipeline (Dat)

variable (m : (ℓ : Loc nD τ sig) → Buf (Elt Ideal) ℓ)

/-- The blocks' places at a grid point. -/
theorem idx : ∀ t : Fin cfg0.N, win0_0.index t = ![t.val / 2, 0] ∧ win0_1.index t = ![0, 0] ∧ win0_2.index t = ![0, t.val % 2] ∧ win0_3.index t = ![t.val / 2, t.val % 2] :=
  (by decide +kernel : ∀ t : Fin grid0.N, _)

/-- The carried rows after a grid point: the scaled rows of its own block, whether it wrote them or the point before did. -/
theorem carried (c : Dev nD) : ∀ (n : ℕ) (h : n < cfg0.N), (outsAt0 m c n h).2 = k0_pay1 (F := Ideal) (iblk m c 0 ⟨n, h⟩) (iblk m c 1 ⟨n, h⟩) := by
  intro n
  induction n with
  | zero =>
    intro h
    rw [outsAt0_A m c ⟨0, h⟩ (Nat.zero_mod _)]
    frame_out
  | succ n ih =>
    intro h
    by_cases h0 : (n + 1) % 2 = 0
    · rw [outsAt0_A m c ⟨n + 1, h⟩ h0]
      frame_out
    · rw [outsAt0_B m c ⟨n + 1, h⟩ h0]
      frame_out
      refine (ih (by omega)).trans ?_
      have e0 : iblk m c 0 ⟨n, by omega⟩ = iblk m c 0 ⟨n + 1, h⟩ := by
        blk_ext! [iblk, V, idx ⟨n, by omega⟩, idx ⟨n + 1, h⟩]
      have e1 : iblk m c 1 ⟨n, by omega⟩ = iblk m c 1 ⟨n + 1, h⟩ := by
        blk_ext! [iblk, V, idx ⟨n, by omega⟩, idx ⟨n + 1, h⟩]
      rw [e0, e1]

/-- The output block at a grid point: the scaled rows of its block times its block of the matrix. -/
theorem written (c : Dev nD) (t : Fin cfg0.N) : (outsAt0 m c t.val t.isLt).1 = k0_pay2 (F := Ideal) (k0_pay1 (F := Ideal) (iblk m c 0 t) (iblk m c 1 t)) (iblk m c 2 t) := by
  have hc := carried m c t.val t.isLt
  by_cases h0 : t.val % 2 = 0
  · rw [outsAt0_A m c t h0]
    frame_out
  · rw [outsAt0_B m c t h0] at hc ⊢
    have hp : (outsAt0 m c (t.val - 1) (Nat.lt_of_le_of_lt (Nat.sub_le _ _) t.isLt)).2 = k0_pay1 (F := Ideal) (iblk m c 0 t) (iblk m c 1 t) := hc
    rw [hp]
    frame_out
    exact congrArg (k0_pay2 (F := Ideal) · (iblk m c 2 t)) ((Memref.isWhole_whole _).read_unread _)

/-- The array after the run: the reference's term over the arguments. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, written]
  pointwise [k0_pay2, k0_pay1, REF, rows]
  blk_point [iblk, V, idx t]

end

/-- The kernel and the reference end with equal results. -/
theorem algebraic : Cert.algebraic_KvProjIdeal_KvProjRefIdeal := by
  intro m g m' g' hpre hagree
  refine ⟨_, Cert.KvProjIdeal.Value.run_blocks m g, (θ_run _ _ _).mono (fun r h c => ⟨(h c).1.trans ?_, (h c).2⟩) (Cert.KvProjRefIdeal.Value.run m' g')⟩
  rw [(hagree c).1, (hagree c).2.1, (hagree c).2.2]
  exact (final m c).symm

end Cert.Proof.KvProj

end
-- ==== Proof.Layer.QProj.lean ====
/-
  A projection of the scaled rows.
-/
module

public import proofs.«01_k».proof.Defs
public import proofs.«01_k».proof.Proof.Gen.QProjIdeal.Value
public import proofs.«01_k».proof.Proof.Gen.QProjRefIdeal.Run
public import Idealize.ShloMosaic.Lib.Pipeline.ValueKit
public import Idealize.ShloMosaic.Lib.Pointwise

@[expose] public section

set_option maxRecDepth 16384

noncomputable section

namespace Cert.Proof.QProj

open Idealize.ShloMosaic Idealize.ShloMosaic.TcCoe Idealize.SL.Sem

section

open Cert.QProjRefIdeal Cert.QProjRefIdeal.Gen

variable (X0 : FVec Ideal S16384x1024 .f32) (X1 : FVec Ideal S1024 .f32) (X2 : FVec Ideal S1024x1024 .bf16)

/-- The rows scaled by the reciprocal root of their mean square and by the weights. -/
def rows : FVec Ideal S16384x1024 .f32 :=
  mulf (mulf X0 (broadcastInDim S16384x1024 ![0, 1] bcast_S16384x1_S16384x1024_0_1 (Host.rsqrt (addf (Host.divf (broadcastInDim S16384x1 ![0] bcast_S16384_S16384x1_0 (Host.reduceAdd (mulf X0 X0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 X1))

/-- The reference's result. -/
def REF : FVec Ideal S16384x1024 .bf16 := truncf .bf16 (Host.dotGeneral dot_S16384x1024_S1024x1024_S16384x1024_1_0_0_1_n_n none (rows X0 X1) (extf .f32 X2 bitsLt_bf16_f32)) bitsLt_bf16_f32

end

section

open Cert.QProjIdeal Cert.QProjIdeal.Gen
open Idealize.ShloMosaic.Pipeline (Dat)

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The array after the run: the reference's term over the arguments. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  pointwise [k0_pay2, k0_pay1, REF, rows]
  blk_point [iblk, V, idx t]

end

/-- The kernel and the reference end with equal results. -/
theorem algebraic : Cert.algebraic_QProjIdeal_QProjRefIdeal := by
  intro m g m' g' hpre hagree
  refine ⟨_, Cert.QProjIdeal.Value.run_blocks m g, (θ_run _ _ _).mono (fun r h c => ⟨(h c).1.trans ?_, (h c).2⟩) (Cert.QProjRefIdeal.Value.run m' g')⟩
  rw [(hagree c).1, (hagree c).2.1, (hagree c).2.2]
  exact (final m c).symm

end Cert.Proof.QProj

end
-- ==== Proof.Layer.OutProj.lean ====
/-
  The output projections: the rows times the matrix, added to the residual.
-/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.Proof.OutProj

open Idealize.ShloMosaic Idealize.ShloMosaic.TcCoe Idealize.SL.Sem

section

open Cert.OutProjRefIdeal Cert.OutProjRefIdeal.Gen

variable (X0 : FVec Ideal S16384x1024 .bf16) (X1 : FVec Ideal S1024x1024 .bf16) (X2 : FVec Ideal S16384x1024 .f32)

/-- The reference's result. -/
def REF : FVec Ideal S16384x1024 .f32 := addf X2 (Host.dotGeneral dot_S16384x1024_S1024x1024_S16384x1024_1_0_0_1_n_n none (extf .f32 X0 bitsLt_bf16_f32) (extf .f32 X1 bitsLt_bf16_f32))

end

section

open Cert.OutProjIdeal Cert.OutProjIdeal.Gen
open Idealize.ShloMosaic.Pipeline (Dat)

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The array after the run: the reference's term over the arguments. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, REF]
  blk_point [iblk, V, idx t]

end

/-- The kernel and the reference end with equal results. -/
theorem algebraic : Cert.algebraic_OutProjIdeal_OutProjRefIdeal := by
  intro m g m' g' hpre hagree
  refine ⟨_, Cert.OutProjIdeal.Value.run_blocks m g, (θ_run _ _ _).mono (fun r h c => ⟨(h c).1.trans ?_, (h c).2⟩) (Cert.OutProjRefIdeal.Value.run m' g')⟩
  rw [(hagree c).1, (hagree c).2.1, (hagree c).2.2]
  exact (final m c).symm

end Cert.Proof.OutProj

end
-- ==== Proof.Layer.Router.lean ====
/-
  The router: the rows scaled for the experts, and their eight logits.
-/
module

public import proofs.«01_k».proof.Defs
public import proofs.«01_k».proof.Proof.Gen.RouterIdeal.Frame
public import proofs.«01_k».proof.Proof.Gen.RouterRefIdeal.Run
public import Idealize.ShloMosaic.Lib.Pipeline.ValueKit
public import Idealize.ShloMosaic.Lib.Pointwise
public import Idealize.ShloMosaic.Lib.Claim
public import Idealize.ShloMosaic.Lib.Routing.OpsOne

@[expose] public section

set_option maxRecDepth 16384

noncomputable section

namespace Cert.Proof.Router

open Idealize.ShloMosaic Idealize.ShloMosaic.TcCoe Idealize.SL.Sem Idealize.ShloMosaic.Routing

section

open Cert.RouterRefIdeal Cert.RouterRefIdeal.Gen

variable (X0 : FVec Ideal S16384x1024 .f32) (X1 : FVec Ideal S1024 .f32) (X2 : FVec Ideal S1024x8 .f32)

/-- The rows scaled by the reciprocal root of their mean square and by the weights. -/
def rows : FVec Ideal S16384x1024 .f32 :=
  mulf (mulf X0 (broadcastInDim S16384x1024 ![0, 1] bcast_S16384x1_S16384x1024_0_1 (Host.rsqrt (addf (Host.divf (broadcastInDim S16384x1 ![0] bcast_S16384_S16384x1_0 (Host.reduceAdd (mulf X0 X0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 X1))

/-- The reference's rows for the experts. -/
def REFH : FVec Ideal S16384x1024 .bf16 := truncf .bf16 (rows X0 X1) bitsLt_bf16_f32

/-- The reference's logits. -/
def REFL : FVec Ideal S16384x8 .f32 := Host.dotGeneral dot_S16384x1024_S1024x8_S16384x8_1_0_0_1_n_n none (rows X0 X1) X2

end

section

open Cert.RouterIdeal Cert.RouterIdeal.Gen
open Idealize.ShloMosaic.Pipeline (Dat)

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- A matrix of eight columns written into the first eight of 128: an update lands at its own place. -/
theorem lands (w : IVec S1 32) (hw : ∀ i, w i = 0#32) (r r' : Fin 1024) (j : Fin 8) (e : Fin 128) :
    scatter_S1024x128_S1_S1024x8_01_n_1_0.resultIdx? (ix2 r j) w = some (ix2 r' e) ↔ r = r' ∧ e.val = j.val := by
  have hw0 : scatter_S1024x128_S1_S1024x8_01_n_1_0.window (ix2 r j) 0 = r.val := rfl
  have hw1 : scatter_S1024x128_S1_S1024x8_01_n_1_0.window (ix2 r j) 1 = j.val := rfl
  have hs0 : scatter_S1024x128_S1_S1024x8_01_n_1_0.start (ix2 r j) w 0 = 0 := rfl
  have hs1 : scatter_S1024x128_S1_S1024x8_01_n_1_0.start (ix2 r j) w 1 = 0 := by
    unfold ScatterDims.start
    rw [dif_pos (by decide), hw]
    rfl
  refine (resultIdx?_ix2 (R := 1024) (C := 128) scatter_S1024x128_S1_S1024x8_01_n_1_0 (ix2 r j) w r' e).trans ?_
  rw [Fin.ext_iff, hs0, hw0, hs1, hw1]
  omega

/-- The padded weights read in one of the first eight columns: the weights. -/
theorem pad (x0 : FVec Ideal S1024x128 .f32) (w : IVec S1 32) (hw : ∀ i, w i = 0#32) (upd : FVec Ideal S1024x8 .f32) (r : Fin 1024) (j : Fin 8) (e : Fin 128)
    (he : e.val = j.val) :
    Host.scatter scatter_S1024x128_S1_S1024x8_01_n_1_0 (fun _ b => b) x0 w upd (ix2 r e) = upd (ix2 r j) := by
  refine scatter_set_hit _ x0 w upd _ _ (fun k hk => ?_) (ix2 r j) ((lands w hw r r j e).2 ⟨rfl, he⟩)
  obtain ⟨a, b, rfl⟩ : ∃ (a : Fin 1024) (b : Fin 8), k = ix2 a b := ⟨k 0, k 1, by blk_ext⟩
  have h := (lands w hw a r b e).1 hk
  obtain rfl : a = r := h.1
  obtain rfl : b = j := Fin.ext (by omega)
  rfl

/-- The weights as the call finds them: written into zeros. -/
theorem entry2 (c : Dev nD) : V m c main_v2 = Host.scatter scatter_S1024x128_S1_S1024x8_01_n_1_0 (fun _ b => b)
    (broadcastInDim S1024x128 ![] bcast_S_S1024x128 (constant (F := Ideal) S_ .f32 0x00000000#32)) (broadcastInDim S1 ![] bcast_S_S1 (constantI S_ 32 0#32)) (m ((c : Thread nD τ).loc main_arg2)) := by
  show StableHlo.after [hostOps0].flatten (fun b => m (c, b)) (Proc.tc.devRef main_v2) = _
  simp only [hostOps0, List.flatten_cons, List.flatten_nil, List.append_nil]
  after_results

/-- The norm's weights as the call finds them. -/
theorem entry3 (c : Dev nD) : V m c main_v3 = shapeCast S1x1024 (m ((c : Thread nD τ).loc main_arg1)) shapeCasts_S1024_S1x1024 := by
  show StableHlo.after [hostOps0].flatten (fun b => m (c, b)) (Proc.tc.devRef main_v3) = _
  simp only [hostOps0, List.flatten_cons, List.flatten_nil, List.append_nil]
  after_results
  rfl

/-- The norm's weights read at a place. -/
theorem norm3 (c : Dev nD) (j : S1x1024.Idx) : V m c main_v3 j = m ((c : Thread nD τ).loc main_arg1) (ix1 (j 1)) := by
  rw [entry3]
  pointwise

/-- The padded weights read in one of the first eight columns. -/
theorem first8 (c : Dev nD) (r : Fin 1024) (j : Fin 8) (e : Fin 128) (he : e.val = j.val) :
    V m c main_v2 (ix2 r e) = m ((c : Thread nD τ).loc main_arg2) (ix2 r j) := by
  rw [entry2]
  exact pad _ (broadcastInDim S1 ![] bcast_S_S1 (constantI S_ 32 0#32)) (fun _ => rfl) _ r j e he

/-- The call's first array after the run: the reference's rows. -/
theorem finalH (c : Dev nD) : (dats m 0 c).arrAt 3 cfg0.N
    = REFH (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay1, k0_pay2, REFH, rows]
  blk_point [iblk, idx t]
  exact (norm3 m c _).trans (by blk_ext [idx t])

/-- The logits over all 128 columns, over any weights. -/
def ALL (X0 : FVec Ideal S16384x1024 .f32) (X1 : FVec Ideal S1024 .f32) (W : FVec Ideal S1024x128 .f32) : FVec Ideal S16384x128 .f32 :=
  fun y => ∑ k : Fin 1024, rows X0 X1 (ix2 (y 0) k) * W (ix2 k (y 1))

/-- The call's second array after the run: the logits over the padded weights. -/
theorem finalL (c : Dev nD) : (dats m 0 c).arrAt 4 cfg0.N
    = ALL (m ((c : Thread nD τ).loc main_arg0)) (m ((c : Thread nD τ).loc main_arg1)) (V m c main_v2) := by
  refine (dats m 0 c).arrAt_eq_of_covers 4 _ (by decide +kernel) fun t _ y => ?_
  blk_simp
  rw [after0_4]
  frame_out
  pointwise [k0_pay1, k0_pay3, ALL, rows]
  blk_point [iblk, idx t]
  exact (norm3 m c _).trans (by blk_ext [idx t])

/-- What the line after the call leaves: the first eight columns of the call's second array. -/
theorem tail (c : Dev nD) : Pipeline.afterTail₀ cfgs (dats m) 0 (V0 m) [hostOps1] c main_v5
    = extractStridedSlice S16384x8 ![0, 0] ((dats m 0 c).arrAt 4 cfg0.N) slices_S16384x128_S16384x8_0_0 := by
  unfold Pipeline.afterTail₀
  simp only [hostOps1, List.flatten_cons, List.flatten_nil, List.append_nil, StableHlo.after_cons, StableHlo.after_nil]
  after_results_simp
  have h := Pipeline.withArrays_arr spec0 (by decide) c (V0 m c) (fun w => (dats m 0 c).arrAt w cfg0.N) 4
  exact congrArg (fun v => extractStridedSlice S16384x8 ![0, 0] v slices_S16384x128_S16384x8_0_0) h

/-- The first eight columns are the reference's logits. -/
theorem cols (X0 : FVec Ideal S16384x1024 .f32) (X1 : FVec Ideal S1024 .f32) (X2 : FVec Ideal S1024x8 .f32) (W : FVec Ideal S1024x128 .f32)
    (hW : ∀ (r : Fin 1024) (j : Fin 8) (e : Fin 128), e.val = j.val → W (ix2 r e) = X2 (ix2 r j)) :
    extractStridedSlice S16384x8 ![0, 0] (ALL X0 X1 W) slices_S16384x128_S16384x8_0_0 = REFL X0 X1 X2 := by
  funext y
  pointwise [ALL, REFL]
  exact Finset.sum_congr rfl fun x _ => congrArg (fun z : EReal => rows X0 X1 (ix2 (y 0) x) * z) (hW x (y 1) _ rfl)

end

/-- The kernel and the reference end with equal results. -/
theorem algebraic : Cert.algebraic_RouterIdeal_RouterRefIdeal := by
  intro m g m' g' hpre hagree
  refine ⟨fun c => REFH (m ((c.tc : Thread _ _).loc Cert.RouterIdeal.main_arg0)) (m ((c.tc : Thread _ _).loc Cert.RouterIdeal.main_arg1)),
    fun c => REFL (m ((c.tc : Thread _ _).loc Cert.RouterIdeal.main_arg0)) (m ((c.tc : Thread _ _).loc Cert.RouterIdeal.main_arg1)) (m ((c.tc : Thread _ _).loc Cert.RouterIdeal.main_arg2)), ?_, ?_⟩
  · refine (θ_run _ _ _).mono (fun r h c => ⟨?_, ?_, h.2 c⟩) (θ_run_and (Cert.RouterIdeal.Gen.run_main m g) (Cert.RouterIdeal.Gen.unchanged m g))
    · exact ((h.1 c).1 3).trans (finalH m c)
    · refine ((h.1 c).2 Cert.RouterIdeal.main_v5 (Pipeline.mem_restRefs_of Cert.RouterIdeal.main_v5 (by decide) (by decide))).trans ((tail m c).trans ?_)
      rw [finalL m c]
      exact cols _ _ _ _ (first8 m c)
  · refine (θ_run _ _ _).mono (fun r h c => ⟨(h c).1.trans ?_, (h c).2.1.trans ?_, (h c).2.2⟩) (Cert.RouterRefIdeal.Value.run m' g')
    · rw [(hagree c).1, (hagree c).2.1]; rfl
    · rw [(hagree c).1, (hagree c).2.1, (hagree c).2.2]; rfl

end Cert.Proof.Router

end
-- ==== Proof.Layer.Final.lean ====
/-
  The final norm, whose result is the layer's.
-/
module

public import proofs.«01_k».proof.Defs
public import proofs.«01_k».proof.Proof.Gen.FinalIdeal.Frame
public import proofs.«01_k».proof.Proof.Gen.FinalRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Final

open Idealize.ShloMosaic Idealize.ShloMosaic.TcCoe Idealize.SL.Sem

section

open Cert.FinalRefIdeal Cert.FinalRefIdeal.Gen

/-- The reference's result. -/
def REF (X0 : FVec Ideal S2x8192x1024 .f32) (X1 : FVec Ideal S1024 .f32) : FVec Ideal S2x8192x1024 .f32 :=
  mulf (mulf X0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X0 X0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 X1))

end

section

open Cert.FinalIdeal Cert.FinalIdeal.Gen
open Idealize.ShloMosaic.Pipeline (Dat)

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] :=
  (by decide +kernel : ∀ t : Fin grid0.N, _)

/-- The rows as the call finds them. -/
theorem entry0 (c : Dev nD) : V m c main_v0 = shapeCast S16384x1024 (m ((c : Thread nD τ).loc main_arg0)) shapeCasts_S2x8192x1024_S16384x1024 := by
  entry_read
  rfl

/-- The weights as the call finds them. -/
theorem entry1 (c : Dev nD) : V m c main_v1 = shapeCast S1x1024 (m ((c : Thread nD τ).loc main_arg1)) shapeCasts_S1024_S1x1024 := by
  entry_read
  rfl

/-- What the line after the call leaves: the call's array, reshaped. -/
theorem tail (c : Dev nD) : Pipeline.afterTail₀ cfgs (dats m) 0 (V0 m) [hostOps1] c main_v3
    = shapeCast S2x8192x1024 ((dats m 0 c).arrAt 2 cfg0.N) shapeCasts_S16384x1024_S2x8192x1024 := by
  unfold Pipeline.afterTail₀
  simp only [hostOps1, List.flatten_cons, List.flatten_nil, List.append_nil, StableHlo.after_cons, StableHlo.after_nil]
  after_results_simp
  have h := Pipeline.withArrays_arr spec0 (by decide) c (V0 m c) (fun w => (dats m 0 c).arrAt w cfg0.N) 2
  exact congrArg (fun v => shapeCast S2x8192x1024 v shapeCasts_S16384x1024_S2x8192x1024) h

/-- The rows as one list, read at a place. -/
theorem flat (X : FVec Ideal S2x8192x1024 .f32) (j : S16384x1024.Idx) : shapeCast S16384x1024 X shapeCasts_S2x8192x1024_S16384x1024 j
    = X (ix3 (⟨(j 0).val / 8192, by have : (j 0).val < 16384 := (j 0).isLt; omega⟩ : Fin 2) (⟨(j 0).val % 8192, by omega⟩ : Fin 8192) (j 1)) := by
  pointwise

/-- A block of rows, read off the rows as the call finds them. -/
theorem blk0 (c : Dev nD) (t : Fin cfg0.N) (a : Fin 1024) (b : Fin 1024) : iblk m c 0 t (ix2 a b)
    = m ((c : Thread nD τ).loc main_arg0) (ix3 (⟨(t.val * 1024 + a.val) / 8192, by have := t.isLt; have : cfg0.N = 16 := rfl; omega⟩ : Fin 2)
        (⟨(t.val * 1024 + a.val) % 8192, by omega⟩ : Fin 8192) b) := by
  have h : iblk m c 0 t (ix2 a b) = V m c main_v0 (((cfg0.win 0).blk t).view.emb (ix2 a b)) := rfl
  have e0 : ((((cfg0.win 0).blk t).view.emb (ix2 a b)) 0).val = t.val * 1024 + a.val := by blk_simp [idx t]
  have e1 : (((cfg0.win 0).blk t).view.emb (ix2 a b)) 1 = b := Fin.ext (by blk_simp [idx t])
  rw [h, entry0, flat, e1]
  simp only [e0]

/-- The block of weights. -/
theorem blk1 (c : Dev nD) (t : Fin cfg0.N) (a : Fin 1) (b : Fin 1024) : iblk m c 1 t (ix2 a b)
    = m ((c : Thread nD τ).loc main_arg1) (ix1 b) := by
  have h : iblk m c 1 t (ix2 a b) = V m c main_v1 (((cfg0.win 1).blk t).view.emb (ix2 a b)) := rfl
  rw [h, entry1]
  pointwise
  blk_ext [idx t]

set_option maxHeartbeats 2000000 in
/-- The call's array after the run: the reference's term over the arguments, its rows as one list. -/
theorem final (c : Dev nD) : (dats m 0 c).arrAt 2 cfg0.N
    = shapeCast S16384x1024 (REF (m ((c : Thread nD τ).loc main_arg0)) (m ((c : Thread nD τ).loc main_arg1))) shapeCasts_S2x8192x1024_S16384x1024 := by
  refine (dats m 0 c).arrAt_eq_of_covers 2 _ (by decide +kernel) fun t _ y => ?_
  blk_simp
  rw [after0_2]
  frame_out
  pointwise [k0_pay1, REF]
  obtain ⟨y0, y1, rfl⟩ : ∃ (a : Fin 1024) (b : Fin 1024), y = ix2 a b := ⟨y 0, y 1, by blk_ext⟩
  simp only [blk0, blk1]
  blk_point [idx t]
  · exact blk0 m c t y0 _
  · exact (blk1 m c t 0 y1).trans (by blk_ext [idx t])

end

/-- The kernel and the reference end with equal results. -/
theorem algebraic : Cert.algebraic_FinalIdeal_FinalRefIdeal := by
  intro m g m' g' hpre hagree
  refine ⟨_, (θ_run _ _ _).mono (fun r h c => ⟨((h.1 c).2 Cert.FinalIdeal.main_v3 (Pipeline.mem_restRefs_of Cert.FinalIdeal.main_v3 (by decide) (by decide))).trans ((tail m c).trans (congrArg (fun v => shapeCast Cert.FinalIdeal.S2x8192x1024 v Cert.FinalIdeal.Gen.shapeCasts_S16384x1024_S2x8192x1024) (final m c))), h.2 c⟩)
    (θ_run_and (Cert.FinalIdeal.Gen.run_main m g) (Cert.FinalIdeal.Gen.unchanged m g)),
    (θ_run _ _ _).mono (fun r h c => ⟨(h c).1.trans ?_, (h c).2⟩) (Cert.FinalRefIdeal.Value.run m' g')⟩
  rw [(hagree c).1, (hagree c).2]
  exact (shapeCast_shapeCast (REF (m ((c.tc : Thread _ _).loc Cert.FinalIdeal.main_arg0)) (m ((c.tc : Thread _ _).loc Cert.FinalIdeal.main_arg1))) _ _).symm

end Cert.Proof.Final

end
-- ==== Proof.Moe.Moe.Frame.lean ====
module

public import proofs.«01_k».proof.Defs
public import proofs.«01_k».proof.Proof.Gen.Moe.Flash.Runs
public import proofs.«01_k».proof.Proof.Gen.Moe.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! # The experts' kernel at any admissible tables: what each point leaves, and the frame

The kernel reads two tables: the expert of each block of rows and the number of blocks in use. Everything here is stated at
any contents `tb` of the tables for which the windows' blocks lie inside their arrays, the only further assumption
(`Held`) being that the memory at launch holds them and that the first block is in use. -/

@[expose] public section

set_option maxRecDepth 16384
set_option Elab.async false

noncomputable section

namespace Cert.Proof.Moe.Moe

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (tb : (pcfg0 (F := Bits)).Adm)

/-- The pipeline at the tables `tb`. -/
abbrev cfgA : Pipeline.Cfg sig Λ₀ := cfg0 (F := Bits) tb
abbrev pcs : Fin 1 → Pipeline.Cfg sig Λ₀ := Pipeline.pin (pcfgs (F := Bits)) fun _ => tb

/-- The two tables: the blocks' experts, and the number of blocks in use. -/
abbrev tab0 : S72.Idx → Elt Bits .i32 := tb.1 0
abbrev tab1 : S1.Idx → Elt Bits .i32 := tb.1 1

/-- The number of blocks in use, as the body reads it. -/
abbrev word : BitVec 32 := (View.readAt (Elt Bits) (tbM0_1).view (Rect.unit (s := S1) ![0] S1.size inb_S1_S1_0).toLoadRect (tab1 tb) (Shape.Idx.first (numel1_S1.symm ▸ Nat.one_pos)))

theorem word_eq : tb.1.atD 1 ![0] = word tb := rfl

variable (m : (ℓ : Loc nD τ sig) → Buf (Elt Bits) ℓ) (ρ : Dev nD → PrngReg)

/-! ## A point's coordinates, words and staging memrefs -/

/-- Point `t`'s coordinates. -/
abbrev crd (t : Fin (cfgA tb).N) : (cfgA tb).grid.Coords := (cfgA tb).grid.coords t

/-- Each window's current staging memref at point `t`, spelled as the pipeline passes it, and its wholeness. -/
abbrev ms0_0 (t : Fin (cfgA tb).N) : Memref sig .tc .vmem S512x1024 .bf16 := spec0_0.stage ((cfgA tb).slots t (0 : Fin 5))
abbrev hs0_0 (t : Fin (cfgA tb).N) : (ms0_0 tb t).IsWhole := hstage0_0 (((cfgA tb).slots t (0 : Fin 5)).cast nbuf0_0)
abbrev ms0_1 (t : Fin (cfgA tb).N) : Memref sig .tc .vmem S1x1024x896 .bf16 := spec0_1.stage ((cfgA tb).slots t (1 : Fin 5))
abbrev hs0_1 (t : Fin (cfgA tb).N) : (ms0_1 tb t).IsWhole := hstage0_1 (((cfgA tb).slots t (1 : Fin 5)).cast nbuf0_1)
abbrev ms0_2 (t : Fin (cfgA tb).N) : Memref sig .tc .vmem S1x1024x896 .bf16 := spec0_2.stage ((cfgA tb).slots t (2 : Fin 5))
abbrev hs0_2 (t : Fin (cfgA tb).N) : (ms0_2 tb t).IsWhole := hstage0_2 (((cfgA tb).slots t (2 : Fin 5)).cast nbuf0_2)
abbrev ms0_3 (t : Fin (cfgA tb).N) : Memref sig .tc .vmem S1x896x1024 .bf16 := spec0_3.stage ((cfgA tb).slots t (3 : Fin 5))
abbrev hs0_3 (t : Fin (cfgA tb).N) : (ms0_3 tb t).IsWhole := hstage0_3 (((cfgA tb).slots t (3 : Fin 5)).cast nbuf0_3)
abbrev ms0_4 (t : Fin (cfgA tb).N) : Memref sig .tc .vmem S512x1024 .f32 := spec0_4.stage ((cfgA tb).slots t (4 : Fin 5))
abbrev hs0_4 (t : Fin (cfgA tb).N) : (ms0_4 tb t).IsWhole := hstage0_4 (((cfgA tb).slots t (4 : Fin 5)).cast nbuf0_4)

/-! ## The windows' blocks -/

/-- Window `w`'s block at point `t`, read off its array at launch. -/
def iblk (c : Dev nD) (w : Fin (cfgA tb).W) (t : Fin (cfgA tb).N) : (((cfgA tb).win w).xblock (crd tb t)).Idx → Elt Bits ((cfgA tb).win w).elt :=
  (((cfgA tb).win w).blk t).view.read (Elt Bits) ((s₀ m ρ).mem (((cfgA tb).win w).arr.view.loc (c : Thread nD τ)))

/-! ## The body's decisions at a point -/

abbrev P0_0 (t : Fin (cfgA tb).N) : Prop := k0_cond1 (crd tb t) (word tb) = 1#1
abbrev P0_1 (t : Fin (cfgA tb).N) : Prop := (Scalar.cmpi .ne (Scalar.extui (Scalar.cmpi .eq (BitVec.ofNat 32 ((crd tb t) 1).val) 0#32)) 0#32) = 1#1
abbrev P0_2 (t : Fin (cfgA tb).N) : Prop := k0_cond4 (crd tb t) = 1#1
abbrev P0_3 (t : Fin (cfgA tb).N) : Prop := k0_cond5 (crd tb t) (word tb) = 1#1

/-- The chunk is the first. -/
theorem first_iff : ∀ i : grid0.Coords, (Scalar.cmpi .ne (Scalar.extui (Scalar.cmpi .eq (BitVec.ofNat 32 (i 1).val) 0#32)) 0#32) = 1#1 ↔ (i 1).val = 0 := by decide +kernel
/-- The chunk is a later one. -/
theorem later_iff : ∀ i : grid0.Coords, (Scalar.cmpi .ne (Scalar.extui (Scalar.cmpi .sgt (BitVec.ofNat 32 (i 1).val) 0#32)) 0#32) = 1#1 ↔ 0 < (i 1).val := by decide +kernel
/-- The chunk is the last. -/
theorem last_iff : ∀ i : grid0.Coords, k0_cond4 i = 1#1 ↔ (i 1).val = 3 := by decide +kernel

theorem skip_bit : ∀ (b : BitVec 1) (i : grid0.Coords),
    Scalar.cmpi .ne (Scalar.extui (Scalar.andi (Scalar.xori b 1#1) (Scalar.cmpi .eq (BitVec.ofNat 32 (i 1).val) 3#32)) : BitVec 32) 0#32 = 1#1
      ↔ ¬ (Scalar.cmpi .ne (Scalar.extui b : BitVec 32) 0#32 = 1#1) ∧ (i 1).val = 3 := by decide +kernel
/-- The zeros are written at the last chunk of a block not in use. -/
theorem skip_iff (i : grid0.Coords) (w : BitVec 32) : k0_cond5 i w = 1#1 ↔ ¬ (k0_cond1 i w = 1#1) ∧ (i 1).val = 3 :=
  skip_bit (Scalar.cmpi .slt (BitVec.ofNat 32 (i 0).val) w) i

/-- The first point is at a first chunk. -/
theorem first_zero : ∀ t : Fin grid0.N, t.val = 0 → (grid0.coords t 1).val = 0 := by decide +kernel
theorem first_of_zero (t : Fin (cfgA tb).N) (h : t.val = 0) : P0_1 tb t := (first_iff _).2 (first_zero t h)

/-- Whether the scratch holds nothing a point has determined, before position `n`: before the first point only. -/
def sfresh (n : ℕ) : Bool := decide (n = 0)
theorem not_first {n : ℕ} (t : Fin n) (h : ¬ t.val = 0) : sfresh t.val = false := decide_eq_false h

/-- The output is left as it is at every chunk but the last, whatever the tables hold, -/
theorem idle_eq (i : grid0.Coords) : (cfgA tb).idle (4 : Fin 5) i = !decide ((i 1).val = 3) := by
  show (!(k0_cond1 i (tb.1.atD 1 ![0]) == 1#1 && k0_cond4 i == 1#1) && !(k0_cond5 i (tb.1.atD 1 ![0]) == 1#1)) = _
  by_cases h : (i 1).val = 3
  · have h4 := (last_iff i).2 h
    by_cases h1 : k0_cond1 i (tb.1.atD 1 ![0]) = 1#1
    · simp [h, h1, h4]
    · simp [h, (skip_iff i _).2 ⟨h1, h⟩]
  · have h4 : ¬ k0_cond4 i = 1#1 := fun e => h ((last_iff i).1 e)
    have h5 : ¬ k0_cond5 i (tb.1.atD 1 ![0]) = 1#1 := fun e => h ((skip_iff i _).1 e).2
    simp [h, h4, h5]

theorem flush_bit : ∀ t : Fin grid0.N,
    (true && ((t.val + 1 = grid0.N : Bool) || decide (∃ h : t.val + 1 < grid0.N, ∃ a, cc0_transform_4 (grid0.coords ⟨t.val + 1, h⟩) a ≠ cc0_transform_4 (grid0.coords t) a)))
      = decide ((grid0.coords t 1).val = 3) := by decide +kernel
/-- and written back at the last. -/
theorem flush_eq (t : Fin (cfgA tb).N) : ((cfgA tb).win (4 : Fin 5)).flush t = decide (((crd tb t) 1).val = 3) :=
  (Pipeline.Window.flush_eq_flushF _ t).trans (flush_bit t)

/-- So nothing is ever kept of it from one point to the next. -/
theorem fresh_eq (t : Fin (cfgA tb).N) : (cfgA tb).fresh (4 : Fin 5) t.val = true :=
  Pipeline.Cfg.fresh_tab (cfgA tb) (4 : Fin 5) (fun _ => true) rfl
    (fun t => by rw [idle_eq, flush_eq]; by_cases h : ((crd tb t) 1).val = 3 <;> simp [h]) t.val (Nat.le_of_lt t.isLt)

/-- The body's decisions at a used block's first chunk (path A). -/
theorem hyps0_A (tb : (pcfg0 (F := Bits)).Adm) (t : Fin (cfgA tb).N) : P0_0 tb t → P0_1 tb t →
    (k0_cond1 (crd tb t) (word tb) = 1#1) ∧ (((Scalar.cmpi .ne (Scalar.extui (Scalar.cmpi .eq (BitVec.ofNat 32 ((crd tb t) 1).val) 0#32)) 0#32) = 1#1) ∧ ((¬((Scalar.cmpi .ne (Scalar.extui (Scalar.cmpi .sgt (BitVec.ofNat 32 ((crd tb t) 1).val) 0#32)) 0#32) = 1#1)) ∧ ((¬(k0_cond4 (crd tb t) = 1#1)) ∧ ((¬(k0_cond5 (crd tb t) (word tb) = 1#1)) ∧ (True))))) :=
  fun q0 q1 => ⟨q0, q1, fun h => absurd ((first_iff _).1 q1) (by have := (later_iff _).1 h; omega), fun h => absurd ((first_iff _).1 q1) (by have := (last_iff _).1 h; omega), fun h => absurd q0 ((skip_iff _ _).1 h).1, trivial⟩

/-- The output's schedule at a used block's first chunk. -/
theorem sched0_A (tb : (pcfg0 (F := Bits)).Adm) (t : Fin (cfgA tb).N) : P0_0 tb t → P0_1 tb t →
    (cfgA tb).idle (4 : Fin 5) ((cfgA tb).grid.coords t) = true ∧ ((cfgA tb).win (4 : Fin 5)).flush t = false ∧ (cfgA tb).fresh (4 : Fin 5) t.val = true := by
  intro q0 q1
  have h : ¬((crd tb t) 1).val = 3 := by have := (first_iff _).1 q1; omega
  exact ⟨by rw [idle_eq]; simp [h], by rw [flush_eq]; simp [h], fresh_eq tb t⟩

/-- The body's decisions at a used block's middle chunks (path B). -/
theorem hyps0_B (tb : (pcfg0 (F := Bits)).Adm) (t : Fin (cfgA tb).N) : P0_0 tb t → ¬P0_1 tb t → ¬P0_2 tb t →
    (k0_cond1 (crd tb t) (word tb) = 1#1) ∧ ((¬((Scalar.cmpi .ne (Scalar.extui (Scalar.cmpi .eq (BitVec.ofNat 32 ((crd tb t) 1).val) 0#32)) 0#32) = 1#1)) ∧ (((Scalar.cmpi .ne (Scalar.extui (Scalar.cmpi .sgt (BitVec.ofNat 32 ((crd tb t) 1).val) 0#32)) 0#32) = 1#1) ∧ ((¬(k0_cond4 (crd tb t) = 1#1)) ∧ ((¬(k0_cond5 (crd tb t) (word tb) = 1#1)) ∧ (True))))) :=
  fun q0 q1 q2 => ⟨q0, q1, (later_iff _).2 (Nat.pos_of_ne_zero fun h => q1 ((first_iff _).2 h)), q2, fun h => absurd q0 ((skip_iff _ _).1 h).1, trivial⟩

/-- The output's schedule at a used block's middle chunks. -/
theorem sched0_B (tb : (pcfg0 (F := Bits)).Adm) (t : Fin (cfgA tb).N) : P0_0 tb t → ¬P0_1 tb t → ¬P0_2 tb t →
    (cfgA tb).idle (4 : Fin 5) ((cfgA tb).grid.coords t) = true ∧ ((cfgA tb).win (4 : Fin 5)).flush t = false ∧ (cfgA tb).fresh (4 : Fin 5) t.val = true := by
  intro q0 q1 q2
  have h : ¬((crd tb t) 1).val = 3 := fun h => q2 ((last_iff _).2 h)
  exact ⟨by rw [idle_eq]; simp [h], by rw [flush_eq]; simp [h], fresh_eq tb t⟩

/-- The body's decisions at a used block's last chunk (path C). -/
theorem hyps0_C (tb : (pcfg0 (F := Bits)).Adm) (t : Fin (cfgA tb).N) : P0_0 tb t → ¬P0_1 tb t → P0_2 tb t →
    (k0_cond1 (crd tb t) (word tb) = 1#1) ∧ ((¬((Scalar.cmpi .ne (Scalar.extui (Scalar.cmpi .eq (BitVec.ofNat 32 ((crd tb t) 1).val) 0#32)) 0#32) = 1#1)) ∧ (((Scalar.cmpi .ne (Scalar.extui (Scalar.cmpi .sgt (BitVec.ofNat 32 ((crd tb t) 1).val) 0#32)) 0#32) = 1#1) ∧ ((k0_cond4 (crd tb t) = 1#1) ∧ ((¬(k0_cond5 (crd tb t) (word tb) = 1#1)) ∧ (True))))) :=
  fun q0 q1 q2 => ⟨q0, q1, (later_iff _).2 (Nat.pos_of_ne_zero fun h => q1 ((first_iff _).2 h)), q2, fun h => absurd q0 ((skip_iff _ _).1 h).1, trivial⟩

/-- The output's schedule at a used block's last chunk. -/
theorem sched0_C (tb : (pcfg0 (F := Bits)).Adm) (t : Fin (cfgA tb).N) : P0_0 tb t → ¬P0_1 tb t → P0_2 tb t →
    (cfgA tb).idle (4 : Fin 5) ((cfgA tb).grid.coords t) = false ∧ ((cfgA tb).win (4 : Fin 5)).flush t = true ∧ (cfgA tb).fresh (4 : Fin 5) t.val = true := by
  intro q0 q1 q2
  have h : ((crd tb t) 1).val = 3 := (last_iff _).1 q2
  exact ⟨by rw [idle_eq]; simp [h], by rw [flush_eq]; simp [h], fresh_eq tb t⟩

/-- The body's decisions at an unused block's points but the last (path D). -/
theorem hyps0_D (tb : (pcfg0 (F := Bits)).Adm) (t : Fin (cfgA tb).N) : ¬P0_0 tb t → ¬P0_3 tb t →
    (¬(k0_cond1 (crd tb t) (word tb) = 1#1)) ∧ ((¬(k0_cond5 (crd tb t) (word tb) = 1#1)) ∧ (True)) :=
  fun q0 q1 => ⟨q0, q1, trivial⟩

/-- The output's schedule at an unused block's points but the last. -/
theorem sched0_D (tb : (pcfg0 (F := Bits)).Adm) (t : Fin (cfgA tb).N) : ¬P0_0 tb t → ¬P0_3 tb t →
    (cfgA tb).idle (4 : Fin 5) ((cfgA tb).grid.coords t) = true ∧ ((cfgA tb).win (4 : Fin 5)).flush t = false ∧ (cfgA tb).fresh (4 : Fin 5) t.val = true := by
  intro q0 q1
  have h : ¬((crd tb t) 1).val = 3 := fun h => q1 ((skip_iff _ _).2 ⟨q0, h⟩)
  exact ⟨by rw [idle_eq]; simp [h], by rw [flush_eq]; simp [h], fresh_eq tb t⟩

/-- The body's decisions at an unused block's last point (path E). -/
theorem hyps0_E (tb : (pcfg0 (F := Bits)).Adm) (t : Fin (cfgA tb).N) : ¬P0_0 tb t → P0_3 tb t →
    (¬(k0_cond1 (crd tb t) (word tb) = 1#1)) ∧ ((k0_cond5 (crd tb t) (word tb) = 1#1) ∧ (True)) :=
  fun q0 q1 => ⟨q0, q1, trivial⟩

/-- The output's schedule at an unused block's last point. -/
theorem sched0_E (tb : (pcfg0 (F := Bits)).Adm) (t : Fin (cfgA tb).N) : ¬P0_0 tb t → P0_3 tb t →
    (cfgA tb).idle (4 : Fin 5) ((cfgA tb).grid.coords t) = false ∧ ((cfgA tb).win (4 : Fin 5)).flush t = true ∧ (cfgA tb).fresh (4 : Fin 5) t.val = true := by
  intro q0 q1
  have h : ((crd tb t) 1).val = 3 := ((skip_iff _ _).1 q1).2
  exact ⟨by rw [idle_eq]; simp [h], by rw [flush_eq]; simp [h], fresh_eq tb t⟩

/-- The memory at launch holds the tables, and the first block is in use. -/
def Held : Prop :=
  (∀ c : Dev nD, m ((c : Thread nD τ).loc main_arg0) = tab0 tb)
  ∧ (∀ c : Dev nD, m ((c : Thread nD τ).loc main_arg1) = tab1 tb)
  ∧ ∀ t : Fin (cfgA tb).N, t.val = 0 → P0_0 tb t

/-! ## What the output and the scratch hold after each point -/

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA tb).N) (prev : (S512x1024.Idx → Elt Bits .f32) × Buf (Elt Bits) ((c : Thread nD τ).loc cc0_scratch0)) : (S512x1024.Idx → Elt Bits .f32) × Buf (Elt Bits) ((c : Thread nD τ).loc cc0_scratch0) :=
  if q0 : P0_0 tb t then
    if q1 : P0_1 tb t then
      ((if (cfgA tb).fresh (4 : Fin 5) t.val then default else prev.1), (kernelRun0_A c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) (hyps0_A tb t q0 q1).1 (hyps0_A tb t q0 q1).2.1 (hyps0_A tb t q0 q1).2.2.1 (hyps0_A tb t q0 q1).2.2.2.1 (hyps0_A tb t q0 q1).2.2.2.2.1).1)
    else
      if q2 : P0_2 tb t then
        (out0_C_4 c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_C tb t q0 q1 q2).1 (hyps0_C tb t q0 q1 q2).2.1 (hyps0_C tb t q0 q1 q2).2.2.1 (hyps0_C tb t q0 q1 q2).2.2.2.1 (hyps0_C tb t q0 q1 q2).2.2.2.2.1, (kernelRun0_C c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_C tb t q0 q1 q2).1 (hyps0_C tb t q0 q1 q2).2.1 (hyps0_C tb t q0 q1 q2).2.2.1 (hyps0_C tb t q0 q1 q2).2.2.2.1 (hyps0_C tb t q0 q1 q2).2.2.2.2.1).2.1)
      else
        ((if (cfgA tb).fresh (4 : Fin 5) t.val then default else prev.1), (kernelRun0_B c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_B tb t q0 q1 q2).1 (hyps0_B tb t q0 q1 q2).2.1 (hyps0_B tb t q0 q1 q2).2.2.1 (hyps0_B tb t q0 q1 q2).2.2.2.1 (hyps0_B tb t q0 q1 q2).2.2.2.2.1).1)
  else
    if q1 : P0_3 tb t then
      (out0_E_4 c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_E tb t q0 q1).1 (hyps0_E tb t q0 q1).2.1, (kernelRun0_E c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_E tb t q0 q1).1 (hyps0_E tb t q0 q1).2.1).2.1)
    else
      ((if (cfgA tb).fresh (4 : Fin 5) t.val then default else prev.1), (kernelRun0_D c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_D tb t q0 q1).1 (hyps0_D tb t q0 q1).2.1).1)

/-- THE TRAJECTORY: after position `n`. -/
def traj0 (c : Dev nD) : (n : ℕ) → n < (cfgA tb).N → (S512x1024.Idx → Elt Bits .f32) × Buf (Elt Bits) ((c : Thread nD τ).loc cc0_scratch0)
  | 0, h => step0 tb m ρ c ⟨0, h⟩ (default, default)
  | n + 1, h => step0 tb m ρ c ⟨n + 1, h⟩ (traj0 c n (Nat.lt_of_succ_lt h))

/-- What they held BEFORE point `t` (junk before the first). -/
def prev0 (c : Dev nD) (t : Fin (cfgA tb).N) : (S512x1024.Idx → Elt Bits .f32) × Buf (Elt Bits) ((c : Thread nD τ).loc cc0_scratch0) :=
  if h : t.val = 0 then (default, default) else traj0 tb m ρ c (t.val - 1) (by omega)

theorem traj0_eq (c : Dev nD) (t : Fin (cfgA tb).N) : traj0 tb m ρ c t.val t.isLt = step0 tb m ρ c t (prev0 tb m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA tb).N) (prev : (S512x1024.Idx → Elt Bits .f32) × Buf (Elt Bits) ((c : Thread nD τ).loc cc0_scratch0)) (q0 : P0_0 tb t) (q1 : P0_1 tb t) :
    step0 tb m ρ c t prev = ((if (cfgA tb).fresh (4 : Fin 5) t.val then default else prev.1), (kernelRun0_A c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) (hyps0_A tb t q0 q1).1 (hyps0_A tb t q0 q1).2.1 (hyps0_A tb t q0 q1).2.2.1 (hyps0_A tb t q0 q1).2.2.2.1 (hyps0_A tb t q0 q1).2.2.2.2.1).1) := by
  unfold step0; simp only [dif_pos q0, dif_pos q1]

/-- `step0` at a point of path B. -/
theorem step0_B (c : Dev nD) (t : Fin (cfgA tb).N) (prev : (S512x1024.Idx → Elt Bits .f32) × Buf (Elt Bits) ((c : Thread nD τ).loc cc0_scratch0)) (q0 : P0_0 tb t) (q1 : ¬P0_1 tb t) (q2 : ¬P0_2 tb t) :
    step0 tb m ρ c t prev = ((if (cfgA tb).fresh (4 : Fin 5) t.val then default else prev.1), (kernelRun0_B c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_B tb t q0 q1 q2).1 (hyps0_B tb t q0 q1 q2).2.1 (hyps0_B tb t q0 q1 q2).2.2.1 (hyps0_B tb t q0 q1 q2).2.2.2.1 (hyps0_B tb t q0 q1 q2).2.2.2.2.1).1) := by
  unfold step0; simp only [dif_pos q0, dif_neg q1, dif_neg q2]

/-- `step0` at a point of path C. -/
theorem step0_C (c : Dev nD) (t : Fin (cfgA tb).N) (prev : (S512x1024.Idx → Elt Bits .f32) × Buf (Elt Bits) ((c : Thread nD τ).loc cc0_scratch0)) (q0 : P0_0 tb t) (q1 : ¬P0_1 tb t) (q2 : P0_2 tb t) :
    step0 tb m ρ c t prev = (out0_C_4 c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_C tb t q0 q1 q2).1 (hyps0_C tb t q0 q1 q2).2.1 (hyps0_C tb t q0 q1 q2).2.2.1 (hyps0_C tb t q0 q1 q2).2.2.2.1 (hyps0_C tb t q0 q1 q2).2.2.2.2.1, (kernelRun0_C c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_C tb t q0 q1 q2).1 (hyps0_C tb t q0 q1 q2).2.1 (hyps0_C tb t q0 q1 q2).2.2.1 (hyps0_C tb t q0 q1 q2).2.2.2.1 (hyps0_C tb t q0 q1 q2).2.2.2.2.1).2.1) := by
  unfold step0; simp only [dif_pos q0, dif_neg q1, dif_pos q2]

/-- `step0` at a point of path D. -/
theorem step0_D (c : Dev nD) (t : Fin (cfgA tb).N) (prev : (S512x1024.Idx → Elt Bits .f32) × Buf (Elt Bits) ((c : Thread nD τ).loc cc0_scratch0)) (q0 : ¬P0_0 tb t) (q1 : ¬P0_3 tb t) :
    step0 tb m ρ c t prev = ((if (cfgA tb).fresh (4 : Fin 5) t.val then default else prev.1), (kernelRun0_D c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_D tb t q0 q1).1 (hyps0_D tb t q0 q1).2.1).1) := by
  unfold step0; simp only [dif_neg q0, dif_neg q1]

/-- `step0` at a point of path E. -/
theorem step0_E (c : Dev nD) (t : Fin (cfgA tb).N) (prev : (S512x1024.Idx → Elt Bits .f32) × Buf (Elt Bits) ((c : Thread nD τ).loc cc0_scratch0)) (q0 : ¬P0_0 tb t) (q1 : P0_3 tb t) :
    step0 tb m ρ c t prev = (out0_E_4 c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_E tb t q0 q1).1 (hyps0_E tb t q0 q1).2.1, (kernelRun0_E c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_E tb t q0 q1).1 (hyps0_E tb t q0 q1).2.1).2.1) := by
  unfold step0; simp only [dif_neg q0, dif_pos q1]

/-! ## The pipeline's proof data -/

/-- What the tracked buffers held before position `t` of `Fin (N+1)` (the invariant's index). -/
def prev0T (c : Dev nD) (t : Fin ((cfgA tb).N + 1)) : (S512x1024.Idx → Elt Bits .f32) × Buf (Elt Bits) ((c : Thread nD τ).loc cc0_scratch0) :=
  if h : t.val = 0 then (default, default) else traj0 tb m ρ c (t.val - 1) (by omega)

theorem prev0T_castSucc (c : Dev nD) (t : Fin (cfgA tb).N) : prev0T tb m ρ c t.castSucc = prev0 tb m ρ c t := by
  unfold prev0T prev0; simp only [Fin.val_castSucc]
theorem prev0T_succ (c : Dev nD) (t : Fin (cfgA tb).N) : prev0T tb m ρ c t.succ = traj0 tb m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA tb).N + 1)) : sProp 𝕄 :=
  iprop((∃ a, ⌜sfresh t.val = false → a = (prev0T tb m ρ c t).2⌝ ∗ (scM0_0.view.loc (c : Thread nD τ) ↦{fullShare} a)) ∗ (tbM0_0.view.loc (c : Thread nD τ) ↦{fullShare.right} tab0 tb) ∗ (tbM0_1.view.loc (c : Thread nD τ) ↦{fullShare.right} tab1 tb))

/-- The proof data of the one pipeline on core `c`. -/
def dats (_ : Fin 1) (c : Dev nD) : Dat τ (Elt Bits) Unit ℕ (UR sig nD τ) ℕ (cfgA tb) c where
  A w := (s₀ m ρ).mem (((cfgA tb).win w).arr.view.loc (c : Thread nD τ))
  after w t := match w with
    | ⟨0, _⟩ => iblk tb m ρ c (0 : Fin 5) t
    | ⟨1, _⟩ => iblk tb m ρ c (1 : Fin 5) t
    | ⟨2, _⟩ => iblk tb m ρ c (2 : Fin 5) t
    | ⟨3, _⟩ => iblk tb m ρ c (3 : Fin 5) t
    | ⟨4, _⟩ => (traj0 tb m ρ c t.val t.isLt).1
  Φ t := Phi tb m ρ c t
  q _ := fullShare
  owed _ := 0

theorem after0_0 (c : Dev nD) (t : Fin (cfgA tb).N) : (dats tb m ρ 0 c).after (0 : Fin 5) t = iblk tb m ρ c (0 : Fin 5) t := rfl
theorem after0_1 (c : Dev nD) (t : Fin (cfgA tb).N) : (dats tb m ρ 0 c).after (1 : Fin 5) t = iblk tb m ρ c (1 : Fin 5) t := rfl
theorem after0_2 (c : Dev nD) (t : Fin (cfgA tb).N) : (dats tb m ρ 0 c).after (2 : Fin 5) t = iblk tb m ρ c (2 : Fin 5) t := rfl
theorem after0_3 (c : Dev nD) (t : Fin (cfgA tb).N) : (dats tb m ρ 0 c).after (3 : Fin 5) t = iblk tb m ρ c (3 : Fin 5) t := rfl
theorem after0_4 (c : Dev nD) (t : Fin (cfgA tb).N) : (dats tb m ρ 0 c).after (4 : Fin 5) t = (traj0 tb m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA tb).N) (d) : (dats tb m ρ 0 c).before (0 : Fin 5) t d = iblk tb m ρ c (0 : Fin 5) t :=
  ((dats tb m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA tb).N) (d) : (dats tb m ρ 0 c).before (1 : Fin 5) t d = iblk tb m ρ c (1 : Fin 5) t :=
  ((dats tb m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA tb).N) (d) : (dats tb m ρ 0 c).before (2 : Fin 5) t d = iblk tb m ρ c (2 : Fin 5) t :=
  ((dats tb m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA tb).N) (d) : (dats tb m ρ 0 c).before (3 : Fin 5) t d = iblk tb m ρ c (3 : Fin 5) t :=
  ((dats tb m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA tb).N) (ht : t.val ≠ 0), (cfgA tb).idle (4 : Fin 5) ((cfgA tb).grid.coords t) = true → (cfgA tb).fresh (4 : Fin 5) t.val = false →
    (dats tb m ρ 0 c).after (4 : Fin 5) t = (dats tb m ρ 0 c).after (4 : Fin 5) ⟨t.val - 1, by omega⟩ := by
  intro t ht hi hf
  rw [after0_4, after0_4, traj0_eq]
  by_cases q0 : P0_0 tb t
  · by_cases q1 : P0_1 tb t
    · rw [step0_A tb m ρ c t _ q0 q1]
      simp only [hf, Bool.false_eq_true, ↓reduceIte]
      unfold prev0; rw [dif_neg ht]
    · by_cases q2 : P0_2 tb t
      · obtain ⟨i4, -, -⟩ := sched0_C tb t q0 q1 q2
        rw [i4] at hi; exact absurd hi (by decide)
      · rw [step0_B tb m ρ c t _ q0 q1 q2]
        simp only [hf, Bool.false_eq_true, ↓reduceIte]
        unfold prev0; rw [dif_neg ht]
  · by_cases q1 : P0_3 tb t
    · obtain ⟨i4, -, -⟩ := sched0_E tb t q0 q1
      rw [i4] at hi; exact absurd hi (by decide)
    · rw [step0_D tb m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA tb).N) (d) :
    (dats tb m ρ 0 c).before (4 : Fin 5) t d = if (cfgA tb).fresh (4 : Fin 5) t.val then d else (prev0 tb m ρ c t).1 := by
  rw [(dats tb m ρ 0 c).before_out_traj (4 : Fin 5) rfl (fun _ _ => rfl) (hcarry0_4 tb m ρ c) t.val t rfl d]
  by_cases hf : (cfgA tb).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA tb).N) : Prog (TpuEff nD τ sig (Elt Bits) Λ₀ .tc) PUnit :=
  cc0_moe_experts (crd tb t) (Memref.whole main_arg0) (Memref.isWhole_whole _) (Memref.whole main_arg1) (Memref.isWhole_whole _) (ms0_0 tb t) (hs0_0 tb t) (ms0_1 tb t) (hs0_1 tb t) (ms0_2 tb t) (hs0_2 tb t) (ms0_3 tb t) (hs0_3 tb t) (ms0_4 tb t) (hs0_4 tb t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Held tb m) (c : Dev nD) (t : Fin (cfgA tb).N) :
    iprop((dats tb m ρ 0 c).Φ t.castSucc ∗ (dats tb m ρ 0 c).owesAt () t.castSucc
        ∗ (∃ d, owns (c : Thread nD τ) (ms0_0 tb t) fullShare ((dats tb m ρ 0 c).before (0 : Fin 5) t d))
        ∗ (∃ d, owns (c : Thread nD τ) (ms0_1 tb t) fullShare ((dats tb m ρ 0 c).before (1 : Fin 5) t d))
        ∗ (∃ d, owns (c : Thread nD τ) (ms0_2 tb t) fullShare ((dats tb m ρ 0 c).before (2 : Fin 5) t d))
        ∗ (∃ d, owns (c : Thread nD τ) (ms0_3 tb t) fullShare ((dats tb m ρ 0 c).before (3 : Fin 5) t d))
        ∗ (∃ d, owns (c : Thread nD τ) (ms0_4 tb t) fullShare ((dats tb m ρ 0 c).before (4 : Fin 5) t d)))
      ⊢ wp frame (wpE (defs₀ (F := Bits)) Variants.none c none) Set.univ (bodyAt0 tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  by_cases q0 : P0_0 tb t
  · by_cases q1 : P0_1 tb t
    · obtain ⟨i4, f4, fr4⟩ := sched0_A tb t q0 q1
      have F0 := hyps0_A tb t q0 q1
      have k0_h1 := F0.1; have F1 := F0.2
      have k0_h2 := F1.1; have F2 := F1.2
      have k0_h3 := F2.1; have F3 := F2.2
      have k0_h4 := F3.1; have F4 := F3.2
      have k0_h5 := F4.1; have F5 := F4.2
      clear F0 F1 F2 F3 F4 F5
      rewrite [i4]
      simp only [before0_0, before0_1, before0_2, before0_3, before0_4, after0_0, after0_1, after0_2, after0_3, after0_4, f4]
      simp only [fr4, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_A tb m ρ c t _ q0 q1]
      unfold Phi; simp only [prev0T_castSucc, prev0T_succ, traj0_eq, step0_A tb m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_A c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) k0_h1 k0_h2 k0_h3 k0_h4 k0_h5).2 _ a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · by_cases q2 : P0_2 tb t
      · obtain ⟨i4, f4, fr4⟩ := sched0_C tb t q0 q1 q2
        have sf0 : sfresh t.val = false := not_first t fun h => q1 (first_of_zero tb t h)
        have F0 := hyps0_C tb t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        clear F0 F1 F2 F3 F4 F5
        rewrite [i4]
        simp only [before0_0, before0_1, before0_2, before0_3, before0_4, after0_0, after0_1, after0_2, after0_3, after0_4, f4]
        simp only [fr4, Bool.false_eq_true, ↓reduceIte]
        rewrite [show (dats tb m ρ 0 c).Φ t.succ = Phi tb m ρ c t.succ from rfl, show (dats tb m ρ 0 c).Φ t.castSucc = Phi tb m ρ c t.castSucc from rfl,
          show (dats tb m ρ 0 c).owesAt () t.succ = (dats tb m ρ 0 c).owesAt () t.castSucc from rfl]
        try rewrite [traj0_eq, step0_C tb m ρ c t _ q0 q1 q2]
        unfold Phi; simp only [prev0T_castSucc, prev0T_succ, traj0_eq, step0_C tb m ρ c t _ q0 q1 q2, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_C c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) _ k0_h1 k0_h2 k0_h3 k0_h4 k0_h5).2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        iintro ⟨H0, H1, H2, H3, HT0, HT1, ⟨%e4, H4⟩, HS0⟩
        isplitl [HS0 HT0 HT1]
        · isplitl [HS0]
          · iexists _; isplitr; swap
            · iexact HS0
            · ipureintro; intro _; rfl
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _ _ _)
      · obtain ⟨i4, f4, fr4⟩ := sched0_B tb t q0 q1 q2
        have sf0 : sfresh t.val = false := not_first t fun h => q1 (first_of_zero tb t h)
        have F0 := hyps0_B tb t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        clear F0 F1 F2 F3 F4 F5
        rewrite [i4]
        simp only [before0_0, before0_1, before0_2, before0_3, before0_4, after0_0, after0_1, after0_2, after0_3, after0_4, f4]
        simp only [fr4, Bool.false_eq_true, ↓reduceIte]
        rewrite [show (dats tb m ρ 0 c).Φ t.succ = Phi tb m ρ c t.succ from rfl, show (dats tb m ρ 0 c).Φ t.castSucc = Phi tb m ρ c t.castSucc from rfl,
          show (dats tb m ρ 0 c).owesAt () t.succ = (dats tb m ρ 0 c).owesAt () t.castSucc from rfl]
        try rewrite [traj0_eq, step0_B tb m ρ c t _ q0 q1 q2]
        unfold Phi; simp only [prev0T_castSucc, prev0T_succ, traj0_eq, step0_B tb m ρ c t _ q0 q1 q2, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_B c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) _ k0_h1 k0_h2 k0_h3 k0_h4 k0_h5).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro _; rfl
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
  · by_cases q1 : P0_3 tb t
    · obtain ⟨i4, f4, fr4⟩ := sched0_E tb t q0 q1
      have sf0 : sfresh t.val = false := not_first t fun h => q0 (hp.2.2 t h)
      have F0 := hyps0_E tb t q0 q1
      have k0_h1 := F0.1; have F1 := F0.2
      have k0_h5 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_E tb m ρ c t _ q0 q1]
      unfold Phi; simp only [prev0T_castSucc, prev0T_succ, traj0_eq, step0_E tb m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_E c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) _ k0_h1 k0_h5).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_E_4 c _ _ _ _ _ _ _ _ _ _ _ _ _ _ _ _ _ _ _ _)
    · obtain ⟨i4, f4, fr4⟩ := sched0_D tb t q0 q1
      have sf0 : sfresh t.val = false := not_first t fun h => q0 (hp.2.2 t h)
      have F0 := hyps0_D tb t q0 q1
      have k0_h1 := F0.1; have F1 := F0.2
      have k0_h5 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_D tb m ρ c t _ q0 q1]
      unfold Phi; simp only [prev0T_castSucc, prev0T_succ, traj0_eq, step0_D tb m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_D c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) _ k0_h1 k0_h5).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (hp : Held tb m) (c : Dev nD) : BodyObligation (dats tb m ρ 0 c) (defs₀ (F := Bits)) Variants.none () Set.univ := fun t => by
  rw [bigSep_W0]
  exact sound_body tb m ρ hp c t

/-! ## The launch -/

/-- The rounds library's launch element. -/
def u₀ : UR sig nD τ :=
  initOf (Pipeline.cells (pcs tb) ((launch0 (F := Bits)).cellOf_inj fun _ => tb))
    (Pipeline.launchToks (pcs tb) ((launch0 (F := Bits)).cellOf_inj fun _ => tb))

theorem share_eq (c : Dev nD) (w : Fin (cfgA tb).W) : (dats tb m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) tb.1 ∗ Pipeline.scopedRest spec0 c) ⊢ (dats tb m ρ 0 c).Φ 0 := by
  rw [prefHeld_eq, scopedRest0_eq, show (dats tb m ρ 0 c).Φ 0 = Phi tb m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh 0 = true from rfl)) Bool.false_ne_true
  isplitl [HT0]
  · iexact HT0
  iexact HT1

/-- at the last point it gives the scratch buffers back (`hout`), the tables let go. -/
theorem phiN_exit (c : Dev nD) : (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = tb.1 j

theorem V_pre (hp : Held tb m) (c : Dev nD) (j : Fin 2) : m ((c : Thread nD τ).loc (pre0.ref j)) = tb.1 j := by
  fin_cases j
  · exact hp.1 c
  · exact hp.2.1 c

set_option backward.isDefEq.respectTransparency.types false in
set_option maxHeartbeats 4000000 in
/-- At the compiled mesh, from any memory with zero counters whose tables and steering words are member `tb`'s: every weakly
    fair execution of @main on the TensorCores terminates, and every final state has each array at the computed contents,
    and every semaphore counter of the machine at zero. -/
theorem run_main_quiescent (hp : Held tb m) : θ_run (defs (F := Bits)) (onTc (τ := τ) (main (F := Bits))) (s₀ m ρ) (fun r => QC tb m ρ r ∧ r.2.sem = fun _ => 0) :=
  Pipeline.θ_run_region_noSem_pf_quiescent pcfgs (fun _ => tb) (dats tb m ρ) () ((launch0 (F := Bits)).cellOf_inj fun _ => tb) (0 : Fin 1)
    (launch0 (F := Bits)).win.to₀ (launch0 (F := Bits)).pre EP defs₀ Variants.none m ρ main
    (hbody := fun c => (body_obligation tb m ρ hp c).loose) (hne := (launch0 (F := Bits)).block_pos)
    (harr := (launch0 (F := Bits)).arr_whole) (hstage := (launch0 (F := Bits)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Bits)).win.arr_inj c (launch0 (F := Bits)).arr_whole
      (share_eq tb m ρ c) _ _ fun _ => rfl)
    (hpf := V_pre tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Held tb m) : θ_run (defs (F := Bits)) (onTc (τ := τ) (main (F := Bits))) (s₀ m ρ) (QC tb m ρ) :=
  (θ_run defs _ _).mono (fun _ h => h.1) (run_main_quiescent tb m ρ hp)

/-- `frame` without the counters: the argument arrays end unchanged. -/
theorem unchanged (hp : Held tb m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2.1 c).symm, ((h c).1 (0 : Fin 5)).trans ((dats tb m ρ 0 c).arrAt_in (0 : Fin 5) rfl _), ((h c).1 (1 : Fin 5)).trans ((dats tb m ρ 0 c).arrAt_in (1 : Fin 5) rfl _), ((h c).1 (2 : Fin 5)).trans ((dats tb m ρ 0 c).arrAt_in (2 : Fin 5) rfl _), ((h c).1 (3 : Fin 5)).trans ((dats tb m ρ 0 c).arrAt_in (3 : Fin 5) rfl _)⟩) (run_main tb m ρ hp)

/-- THE FRAME under the pinning: from a launch memory whose tables and steering words are member `tb`'s, every weakly fair
    execution terminates, nothing faults, every argument array ends unchanged and every semaphore counter of the machine reads
    zero at every final state — `Cert.quiescent_Moe`'s post.
    Proof.lean: `theorem Cert.Proof.claim : Cert.Claim := ⟨Cert.Moe.Gen.facts, <Pre>.Gen.facts, fun m ρ h => (pinned_of_pre m h).elim fun tb hp => Cert.Moe.Gen.frame tb m ρ hp⟩`. -/
theorem frame (hp : Held tb m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged tb m ρ hp) ((θ_run defs _ _).mono (fun _ h => h.2) (run_main_quiescent tb m ρ hp))

end Cert.Proof.Moe.Moe

end
-- ==== Proof.Moe.MoeIdeal.Frame.lean ====
module

public import proofs.«01_k».proof.Defs
public import proofs.«01_k».proof.Proof.Gen.MoeIdeal.Flash.Runs
public import proofs.«01_k».proof.Proof.Gen.MoeIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! # The experts' kernel at any admissible tables: what each point leaves, and the frame

The kernel reads two tables: the expert of each block of rows and the number of blocks in use. Everything here is stated at
any contents `tb` of the tables for which the windows' blocks lie inside their arrays, the only further assumption
(`Held`) being that the memory at launch holds them and that the first block is in use. -/

@[expose] public section

set_option maxRecDepth 16384
set_option Elab.async false

noncomputable section

namespace Cert.Proof.Moe.MoeIdeal

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (tb : (pcfg0 (F := Ideal)).Adm)

/-- The pipeline at the tables `tb`. -/
abbrev cfgA : Pipeline.Cfg sig Λ₀ := cfg0 (F := Ideal) tb
abbrev pcs : Fin 1 → Pipeline.Cfg sig Λ₀ := Pipeline.pin (pcfgs (F := Ideal)) fun _ => tb

/-- The two tables: the blocks' experts, and the number of blocks in use. -/
abbrev tab0 : S72.Idx → Elt Ideal .i32 := tb.1 0
abbrev tab1 : S1.Idx → Elt Ideal .i32 := tb.1 1

/-- The number of blocks in use, as the body reads it. -/
abbrev word : BitVec 32 := (View.readAt (Elt Ideal) (tbM0_1).view (Rect.unit (s := S1) ![0] S1.size inb_S1_S1_0).toLoadRect (tab1 tb) (Shape.Idx.first (numel1_S1.symm ▸ Nat.one_pos)))

theorem word_eq : tb.1.atD 1 ![0] = word tb := rfl

variable (m : (ℓ : Loc nD τ sig) → Buf (Elt Ideal) ℓ) (ρ : Dev nD → PrngReg)

/-! ## A point's coordinates, words and staging memrefs -/

/-- Point `t`'s coordinates. -/
abbrev crd (t : Fin (cfgA tb).N) : (cfgA tb).grid.Coords := (cfgA tb).grid.coords t

/-- Each window's current staging memref at point `t`, spelled as the pipeline passes it, and its wholeness. -/
abbrev ms0_0 (t : Fin (cfgA tb).N) : Memref sig .tc .vmem S512x1024 .bf16 := spec0_0.stage ((cfgA tb).slots t (0 : Fin 5))
abbrev hs0_0 (t : Fin (cfgA tb).N) : (ms0_0 tb t).IsWhole := hstage0_0 (((cfgA tb).slots t (0 : Fin 5)).cast nbuf0_0)
abbrev ms0_1 (t : Fin (cfgA tb).N) : Memref sig .tc .vmem S1x1024x896 .bf16 := spec0_1.stage ((cfgA tb).slots t (1 : Fin 5))
abbrev hs0_1 (t : Fin (cfgA tb).N) : (ms0_1 tb t).IsWhole := hstage0_1 (((cfgA tb).slots t (1 : Fin 5)).cast nbuf0_1)
abbrev ms0_2 (t : Fin (cfgA tb).N) : Memref sig .tc .vmem S1x1024x896 .bf16 := spec0_2.stage ((cfgA tb).slots t (2 : Fin 5))
abbrev hs0_2 (t : Fin (cfgA tb).N) : (ms0_2 tb t).IsWhole := hstage0_2 (((cfgA tb).slots t (2 : Fin 5)).cast nbuf0_2)
abbrev ms0_3 (t : Fin (cfgA tb).N) : Memref sig .tc .vmem S1x896x1024 .bf16 := spec0_3.stage ((cfgA tb).slots t (3 : Fin 5))
abbrev hs0_3 (t : Fin (cfgA tb).N) : (ms0_3 tb t).IsWhole := hstage0_3 (((cfgA tb).slots t (3 : Fin 5)).cast nbuf0_3)
abbrev ms0_4 (t : Fin (cfgA tb).N) : Memref sig .tc .vmem S512x1024 .f32 := spec0_4.stage ((cfgA tb).slots t (4 : Fin 5))
abbrev hs0_4 (t : Fin (cfgA tb).N) : (ms0_4 tb t).IsWhole := hstage0_4 (((cfgA tb).slots t (4 : Fin 5)).cast nbuf0_4)

/-! ## The windows' blocks -/

/-- Window `w`'s block at point `t`, read off its array at launch. -/
def iblk (c : Dev nD) (w : Fin (cfgA tb).W) (t : Fin (cfgA tb).N) : (((cfgA tb).win w).xblock (crd tb t)).Idx → Elt Ideal ((cfgA tb).win w).elt :=
  (((cfgA tb).win w).blk t).view.read (Elt Ideal) ((s₀ m ρ).mem (((cfgA tb).win w).arr.view.loc (c : Thread nD τ)))

/-! ## The body's decisions at a point -/

abbrev P0_0 (t : Fin (cfgA tb).N) : Prop := k0_cond1 (crd tb t) (word tb) = 1#1
abbrev P0_1 (t : Fin (cfgA tb).N) : Prop := (Scalar.cmpi .ne (Scalar.extui (Scalar.cmpi .eq (BitVec.ofNat 32 ((crd tb t) 1).val) 0#32)) 0#32) = 1#1
abbrev P0_2 (t : Fin (cfgA tb).N) : Prop := k0_cond4 (crd tb t) = 1#1
abbrev P0_3 (t : Fin (cfgA tb).N) : Prop := k0_cond5 (crd tb t) (word tb) = 1#1

/-- The chunk is the first. -/
theorem first_iff : ∀ i : grid0.Coords, (Scalar.cmpi .ne (Scalar.extui (Scalar.cmpi .eq (BitVec.ofNat 32 (i 1).val) 0#32)) 0#32) = 1#1 ↔ (i 1).val = 0 := by decide +kernel
/-- The chunk is a later one. -/
theorem later_iff : ∀ i : grid0.Coords, (Scalar.cmpi .ne (Scalar.extui (Scalar.cmpi .sgt (BitVec.ofNat 32 (i 1).val) 0#32)) 0#32) = 1#1 ↔ 0 < (i 1).val := by decide +kernel
/-- The chunk is the last. -/
theorem last_iff : ∀ i : grid0.Coords, k0_cond4 i = 1#1 ↔ (i 1).val = 3 := by decide +kernel

theorem skip_bit : ∀ (b : BitVec 1) (i : grid0.Coords),
    Scalar.cmpi .ne (Scalar.extui (Scalar.andi (Scalar.xori b 1#1) (Scalar.cmpi .eq (BitVec.ofNat 32 (i 1).val) 3#32)) : BitVec 32) 0#32 = 1#1
      ↔ ¬ (Scalar.cmpi .ne (Scalar.extui b : BitVec 32) 0#32 = 1#1) ∧ (i 1).val = 3 := by decide +kernel
/-- The zeros are written at the last chunk of a block not in use. -/
theorem skip_iff (i : grid0.Coords) (w : BitVec 32) : k0_cond5 i w = 1#1 ↔ ¬ (k0_cond1 i w = 1#1) ∧ (i 1).val = 3 :=
  skip_bit (Scalar.cmpi .slt (BitVec.ofNat 32 (i 0).val) w) i

/-- The first point is at a first chunk. -/
theorem first_zero : ∀ t : Fin grid0.N, t.val = 0 → (grid0.coords t 1).val = 0 := by decide +kernel
theorem first_of_zero (t : Fin (cfgA tb).N) (h : t.val = 0) : P0_1 tb t := (first_iff _).2 (first_zero t h)

/-- Whether the scratch holds nothing a point has determined, before position `n`: before the first point only. -/
def sfresh (n : ℕ) : Bool := decide (n = 0)
theorem not_first {n : ℕ} (t : Fin n) (h : ¬ t.val = 0) : sfresh t.val = false := decide_eq_false h

/-- The output is left as it is at every chunk but the last, whatever the tables hold, -/
theorem idle_eq (i : grid0.Coords) : (cfgA tb).idle (4 : Fin 5) i = !decide ((i 1).val = 3) := by
  show (!(k0_cond1 i (tb.1.atD 1 ![0]) == 1#1 && k0_cond4 i == 1#1) && !(k0_cond5 i (tb.1.atD 1 ![0]) == 1#1)) = _
  by_cases h : (i 1).val = 3
  · have h4 := (last_iff i).2 h
    by_cases h1 : k0_cond1 i (tb.1.atD 1 ![0]) = 1#1
    · simp [h, h1, h4]
    · simp [h, (skip_iff i _).2 ⟨h1, h⟩]
  · have h4 : ¬ k0_cond4 i = 1#1 := fun e => h ((last_iff i).1 e)
    have h5 : ¬ k0_cond5 i (tb.1.atD 1 ![0]) = 1#1 := fun e => h ((skip_iff i _).1 e).2
    simp [h, h4, h5]

theorem flush_bit : ∀ t : Fin grid0.N,
    (true && ((t.val + 1 = grid0.N : Bool) || decide (∃ h : t.val + 1 < grid0.N, ∃ a, cc0_transform_4 (grid0.coords ⟨t.val + 1, h⟩) a ≠ cc0_transform_4 (grid0.coords t) a)))
      = decide ((grid0.coords t 1).val = 3) := by decide +kernel
/-- and written back at the last. -/
theorem flush_eq (t : Fin (cfgA tb).N) : ((cfgA tb).win (4 : Fin 5)).flush t = decide (((crd tb t) 1).val = 3) :=
  (Pipeline.Window.flush_eq_flushF _ t).trans (flush_bit t)

/-- So nothing is ever kept of it from one point to the next. -/
theorem fresh_eq (t : Fin (cfgA tb).N) : (cfgA tb).fresh (4 : Fin 5) t.val = true :=
  Pipeline.Cfg.fresh_tab (cfgA tb) (4 : Fin 5) (fun _ => true) rfl
    (fun t => by rw [idle_eq, flush_eq]; by_cases h : ((crd tb t) 1).val = 3 <;> simp [h]) t.val (Nat.le_of_lt t.isLt)

/-- The body's decisions at a used block's first chunk (path A). -/
theorem hyps0_A (tb : (pcfg0 (F := Ideal)).Adm) (t : Fin (cfgA tb).N) : P0_0 tb t → P0_1 tb t →
    (k0_cond1 (crd tb t) (word tb) = 1#1) ∧ (((Scalar.cmpi .ne (Scalar.extui (Scalar.cmpi .eq (BitVec.ofNat 32 ((crd tb t) 1).val) 0#32)) 0#32) = 1#1) ∧ ((¬((Scalar.cmpi .ne (Scalar.extui (Scalar.cmpi .sgt (BitVec.ofNat 32 ((crd tb t) 1).val) 0#32)) 0#32) = 1#1)) ∧ ((¬(k0_cond4 (crd tb t) = 1#1)) ∧ ((¬(k0_cond5 (crd tb t) (word tb) = 1#1)) ∧ (True))))) :=
  fun q0 q1 => ⟨q0, q1, fun h => absurd ((first_iff _).1 q1) (by have := (later_iff _).1 h; omega), fun h => absurd ((first_iff _).1 q1) (by have := (last_iff _).1 h; omega), fun h => absurd q0 ((skip_iff _ _).1 h).1, trivial⟩

/-- The output's schedule at a used block's first chunk. -/
theorem sched0_A (tb : (pcfg0 (F := Ideal)).Adm) (t : Fin (cfgA tb).N) : P0_0 tb t → P0_1 tb t →
    (cfgA tb).idle (4 : Fin 5) ((cfgA tb).grid.coords t) = true ∧ ((cfgA tb).win (4 : Fin 5)).flush t = false ∧ (cfgA tb).fresh (4 : Fin 5) t.val = true := by
  intro q0 q1
  have h : ¬((crd tb t) 1).val = 3 := by have := (first_iff _).1 q1; omega
  exact ⟨by rw [idle_eq]; simp [h], by rw [flush_eq]; simp [h], fresh_eq tb t⟩

/-- The body's decisions at a used block's middle chunks (path B). -/
theorem hyps0_B (tb : (pcfg0 (F := Ideal)).Adm) (t : Fin (cfgA tb).N) : P0_0 tb t → ¬P0_1 tb t → ¬P0_2 tb t →
    (k0_cond1 (crd tb t) (word tb) = 1#1) ∧ ((¬((Scalar.cmpi .ne (Scalar.extui (Scalar.cmpi .eq (BitVec.ofNat 32 ((crd tb t) 1).val) 0#32)) 0#32) = 1#1)) ∧ (((Scalar.cmpi .ne (Scalar.extui (Scalar.cmpi .sgt (BitVec.ofNat 32 ((crd tb t) 1).val) 0#32)) 0#32) = 1#1) ∧ ((¬(k0_cond4 (crd tb t) = 1#1)) ∧ ((¬(k0_cond5 (crd tb t) (word tb) = 1#1)) ∧ (True))))) :=
  fun q0 q1 q2 => ⟨q0, q1, (later_iff _).2 (Nat.pos_of_ne_zero fun h => q1 ((first_iff _).2 h)), q2, fun h => absurd q0 ((skip_iff _ _).1 h).1, trivial⟩

/-- The output's schedule at a used block's middle chunks. -/
theorem sched0_B (tb : (pcfg0 (F := Ideal)).Adm) (t : Fin (cfgA tb).N) : P0_0 tb t → ¬P0_1 tb t → ¬P0_2 tb t →
    (cfgA tb).idle (4 : Fin 5) ((cfgA tb).grid.coords t) = true ∧ ((cfgA tb).win (4 : Fin 5)).flush t = false ∧ (cfgA tb).fresh (4 : Fin 5) t.val = true := by
  intro q0 q1 q2
  have h : ¬((crd tb t) 1).val = 3 := fun h => q2 ((last_iff _).2 h)
  exact ⟨by rw [idle_eq]; simp [h], by rw [flush_eq]; simp [h], fresh_eq tb t⟩

/-- The body's decisions at a used block's last chunk (path C). -/
theorem hyps0_C (tb : (pcfg0 (F := Ideal)).Adm) (t : Fin (cfgA tb).N) : P0_0 tb t → ¬P0_1 tb t → P0_2 tb t →
    (k0_cond1 (crd tb t) (word tb) = 1#1) ∧ ((¬((Scalar.cmpi .ne (Scalar.extui (Scalar.cmpi .eq (BitVec.ofNat 32 ((crd tb t) 1).val) 0#32)) 0#32) = 1#1)) ∧ (((Scalar.cmpi .ne (Scalar.extui (Scalar.cmpi .sgt (BitVec.ofNat 32 ((crd tb t) 1).val) 0#32)) 0#32) = 1#1) ∧ ((k0_cond4 (crd tb t) = 1#1) ∧ ((¬(k0_cond5 (crd tb t) (word tb) = 1#1)) ∧ (True))))) :=
  fun q0 q1 q2 => ⟨q0, q1, (later_iff _).2 (Nat.pos_of_ne_zero fun h => q1 ((first_iff _).2 h)), q2, fun h => absurd q0 ((skip_iff _ _).1 h).1, trivial⟩

/-- The output's schedule at a used block's last chunk. -/
theorem sched0_C (tb : (pcfg0 (F := Ideal)).Adm) (t : Fin (cfgA tb).N) : P0_0 tb t → ¬P0_1 tb t → P0_2 tb t →
    (cfgA tb).idle (4 : Fin 5) ((cfgA tb).grid.coords t) = false ∧ ((cfgA tb).win (4 : Fin 5)).flush t = true ∧ (cfgA tb).fresh (4 : Fin 5) t.val = true := by
  intro q0 q1 q2
  have h : ((crd tb t) 1).val = 3 := (last_iff _).1 q2
  exact ⟨by rw [idle_eq]; simp [h], by rw [flush_eq]; simp [h], fresh_eq tb t⟩

/-- The body's decisions at an unused block's points but the last (path D). -/
theorem hyps0_D (tb : (pcfg0 (F := Ideal)).Adm) (t : Fin (cfgA tb).N) : ¬P0_0 tb t → ¬P0_3 tb t →
    (¬(k0_cond1 (crd tb t) (word tb) = 1#1)) ∧ ((¬(k0_cond5 (crd tb t) (word tb) = 1#1)) ∧ (True)) :=
  fun q0 q1 => ⟨q0, q1, trivial⟩

/-- The output's schedule at an unused block's points but the last. -/
theorem sched0_D (tb : (pcfg0 (F := Ideal)).Adm) (t : Fin (cfgA tb).N) : ¬P0_0 tb t → ¬P0_3 tb t →
    (cfgA tb).idle (4 : Fin 5) ((cfgA tb).grid.coords t) = true ∧ ((cfgA tb).win (4 : Fin 5)).flush t = false ∧ (cfgA tb).fresh (4 : Fin 5) t.val = true := by
  intro q0 q1
  have h : ¬((crd tb t) 1).val = 3 := fun h => q1 ((skip_iff _ _).2 ⟨q0, h⟩)
  exact ⟨by rw [idle_eq]; simp [h], by rw [flush_eq]; simp [h], fresh_eq tb t⟩

/-- The body's decisions at an unused block's last point (path E). -/
theorem hyps0_E (tb : (pcfg0 (F := Ideal)).Adm) (t : Fin (cfgA tb).N) : ¬P0_0 tb t → P0_3 tb t →
    (¬(k0_cond1 (crd tb t) (word tb) = 1#1)) ∧ ((k0_cond5 (crd tb t) (word tb) = 1#1) ∧ (True)) :=
  fun q0 q1 => ⟨q0, q1, trivial⟩

/-- The output's schedule at an unused block's last point. -/
theorem sched0_E (tb : (pcfg0 (F := Ideal)).Adm) (t : Fin (cfgA tb).N) : ¬P0_0 tb t → P0_3 tb t →
    (cfgA tb).idle (4 : Fin 5) ((cfgA tb).grid.coords t) = false ∧ ((cfgA tb).win (4 : Fin 5)).flush t = true ∧ (cfgA tb).fresh (4 : Fin 5) t.val = true := by
  intro q0 q1
  have h : ((crd tb t) 1).val = 3 := ((skip_iff _ _).1 q1).2
  exact ⟨by rw [idle_eq]; simp [h], by rw [flush_eq]; simp [h], fresh_eq tb t⟩

/-- The memory at launch holds the tables, and the first block is in use. -/
def Held : Prop :=
  (∀ c : Dev nD, m ((c : Thread nD τ).loc main_arg0) = tab0 tb)
  ∧ (∀ c : Dev nD, m ((c : Thread nD τ).loc main_arg1) = tab1 tb)
  ∧ ∀ t : Fin (cfgA tb).N, t.val = 0 → P0_0 tb t

/-! ## What the output and the scratch hold after each point -/

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA tb).N) (prev : (S512x1024.Idx → Elt Ideal .f32) × Buf (Elt Ideal) ((c : Thread nD τ).loc cc0_scratch0)) : (S512x1024.Idx → Elt Ideal .f32) × Buf (Elt Ideal) ((c : Thread nD τ).loc cc0_scratch0) :=
  if q0 : P0_0 tb t then
    if q1 : P0_1 tb t then
      ((if (cfgA tb).fresh (4 : Fin 5) t.val then default else prev.1), (kernelRun0_A c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) (hyps0_A tb t q0 q1).1 (hyps0_A tb t q0 q1).2.1 (hyps0_A tb t q0 q1).2.2.1 (hyps0_A tb t q0 q1).2.2.2.1 (hyps0_A tb t q0 q1).2.2.2.2.1).1)
    else
      if q2 : P0_2 tb t then
        (out0_C_4 c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_C tb t q0 q1 q2).1 (hyps0_C tb t q0 q1 q2).2.1 (hyps0_C tb t q0 q1 q2).2.2.1 (hyps0_C tb t q0 q1 q2).2.2.2.1 (hyps0_C tb t q0 q1 q2).2.2.2.2.1, (kernelRun0_C c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_C tb t q0 q1 q2).1 (hyps0_C tb t q0 q1 q2).2.1 (hyps0_C tb t q0 q1 q2).2.2.1 (hyps0_C tb t q0 q1 q2).2.2.2.1 (hyps0_C tb t q0 q1 q2).2.2.2.2.1).2.1)
      else
        ((if (cfgA tb).fresh (4 : Fin 5) t.val then default else prev.1), (kernelRun0_B c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_B tb t q0 q1 q2).1 (hyps0_B tb t q0 q1 q2).2.1 (hyps0_B tb t q0 q1 q2).2.2.1 (hyps0_B tb t q0 q1 q2).2.2.2.1 (hyps0_B tb t q0 q1 q2).2.2.2.2.1).1)
  else
    if q1 : P0_3 tb t then
      (out0_E_4 c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_E tb t q0 q1).1 (hyps0_E tb t q0 q1).2.1, (kernelRun0_E c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_E tb t q0 q1).1 (hyps0_E tb t q0 q1).2.1).2.1)
    else
      ((if (cfgA tb).fresh (4 : Fin 5) t.val then default else prev.1), (kernelRun0_D c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_D tb t q0 q1).1 (hyps0_D tb t q0 q1).2.1).1)

/-- THE TRAJECTORY: after position `n`. -/
def traj0 (c : Dev nD) : (n : ℕ) → n < (cfgA tb).N → (S512x1024.Idx → Elt Ideal .f32) × Buf (Elt Ideal) ((c : Thread nD τ).loc cc0_scratch0)
  | 0, h => step0 tb m ρ c ⟨0, h⟩ (default, default)
  | n + 1, h => step0 tb m ρ c ⟨n + 1, h⟩ (traj0 c n (Nat.lt_of_succ_lt h))

/-- What they held BEFORE point `t` (junk before the first). -/
def prev0 (c : Dev nD) (t : Fin (cfgA tb).N) : (S512x1024.Idx → Elt Ideal .f32) × Buf (Elt Ideal) ((c : Thread nD τ).loc cc0_scratch0) :=
  if h : t.val = 0 then (default, default) else traj0 tb m ρ c (t.val - 1) (by omega)

theorem traj0_eq (c : Dev nD) (t : Fin (cfgA tb).N) : traj0 tb m ρ c t.val t.isLt = step0 tb m ρ c t (prev0 tb m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA tb).N) (prev : (S512x1024.Idx → Elt Ideal .f32) × Buf (Elt Ideal) ((c : Thread nD τ).loc cc0_scratch0)) (q0 : P0_0 tb t) (q1 : P0_1 tb t) :
    step0 tb m ρ c t prev = ((if (cfgA tb).fresh (4 : Fin 5) t.val then default else prev.1), (kernelRun0_A c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) (hyps0_A tb t q0 q1).1 (hyps0_A tb t q0 q1).2.1 (hyps0_A tb t q0 q1).2.2.1 (hyps0_A tb t q0 q1).2.2.2.1 (hyps0_A tb t q0 q1).2.2.2.2.1).1) := by
  unfold step0; simp only [dif_pos q0, dif_pos q1]

/-- `step0` at a point of path B. -/
theorem step0_B (c : Dev nD) (t : Fin (cfgA tb).N) (prev : (S512x1024.Idx → Elt Ideal .f32) × Buf (Elt Ideal) ((c : Thread nD τ).loc cc0_scratch0)) (q0 : P0_0 tb t) (q1 : ¬P0_1 tb t) (q2 : ¬P0_2 tb t) :
    step0 tb m ρ c t prev = ((if (cfgA tb).fresh (4 : Fin 5) t.val then default else prev.1), (kernelRun0_B c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_B tb t q0 q1 q2).1 (hyps0_B tb t q0 q1 q2).2.1 (hyps0_B tb t q0 q1 q2).2.2.1 (hyps0_B tb t q0 q1 q2).2.2.2.1 (hyps0_B tb t q0 q1 q2).2.2.2.2.1).1) := by
  unfold step0; simp only [dif_pos q0, dif_neg q1, dif_neg q2]

/-- `step0` at a point of path C. -/
theorem step0_C (c : Dev nD) (t : Fin (cfgA tb).N) (prev : (S512x1024.Idx → Elt Ideal .f32) × Buf (Elt Ideal) ((c : Thread nD τ).loc cc0_scratch0)) (q0 : P0_0 tb t) (q1 : ¬P0_1 tb t) (q2 : P0_2 tb t) :
    step0 tb m ρ c t prev = (out0_C_4 c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_C tb t q0 q1 q2).1 (hyps0_C tb t q0 q1 q2).2.1 (hyps0_C tb t q0 q1 q2).2.2.1 (hyps0_C tb t q0 q1 q2).2.2.2.1 (hyps0_C tb t q0 q1 q2).2.2.2.2.1, (kernelRun0_C c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_C tb t q0 q1 q2).1 (hyps0_C tb t q0 q1 q2).2.1 (hyps0_C tb t q0 q1 q2).2.2.1 (hyps0_C tb t q0 q1 q2).2.2.2.1 (hyps0_C tb t q0 q1 q2).2.2.2.2.1).2.1) := by
  unfold step0; simp only [dif_pos q0, dif_neg q1, dif_pos q2]

/-- `step0` at a point of path D. -/
theorem step0_D (c : Dev nD) (t : Fin (cfgA tb).N) (prev : (S512x1024.Idx → Elt Ideal .f32) × Buf (Elt Ideal) ((c : Thread nD τ).loc cc0_scratch0)) (q0 : ¬P0_0 tb t) (q1 : ¬P0_3 tb t) :
    step0 tb m ρ c t prev = ((if (cfgA tb).fresh (4 : Fin 5) t.val then default else prev.1), (kernelRun0_D c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_D tb t q0 q1).1 (hyps0_D tb t q0 q1).2.1).1) := by
  unfold step0; simp only [dif_neg q0, dif_neg q1]

/-- `step0` at a point of path E. -/
theorem step0_E (c : Dev nD) (t : Fin (cfgA tb).N) (prev : (S512x1024.Idx → Elt Ideal .f32) × Buf (Elt Ideal) ((c : Thread nD τ).loc cc0_scratch0)) (q0 : ¬P0_0 tb t) (q1 : P0_3 tb t) :
    step0 tb m ρ c t prev = (out0_E_4 c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_E tb t q0 q1).1 (hyps0_E tb t q0 q1).2.1, (kernelRun0_E c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) prev.2 (hyps0_E tb t q0 q1).1 (hyps0_E tb t q0 q1).2.1).2.1) := by
  unfold step0; simp only [dif_neg q0, dif_pos q1]

/-! ## The pipeline's proof data -/

/-- What the tracked buffers held before position `t` of `Fin (N+1)` (the invariant's index). -/
def prev0T (c : Dev nD) (t : Fin ((cfgA tb).N + 1)) : (S512x1024.Idx → Elt Ideal .f32) × Buf (Elt Ideal) ((c : Thread nD τ).loc cc0_scratch0) :=
  if h : t.val = 0 then (default, default) else traj0 tb m ρ c (t.val - 1) (by omega)

theorem prev0T_castSucc (c : Dev nD) (t : Fin (cfgA tb).N) : prev0T tb m ρ c t.castSucc = prev0 tb m ρ c t := by
  unfold prev0T prev0; simp only [Fin.val_castSucc]
theorem prev0T_succ (c : Dev nD) (t : Fin (cfgA tb).N) : prev0T tb m ρ c t.succ = traj0 tb m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA tb).N + 1)) : sProp 𝕄 :=
  iprop((∃ a, ⌜sfresh t.val = false → a = (prev0T tb m ρ c t).2⌝ ∗ (scM0_0.view.loc (c : Thread nD τ) ↦{fullShare} a)) ∗ (tbM0_0.view.loc (c : Thread nD τ) ↦{fullShare.right} tab0 tb) ∗ (tbM0_1.view.loc (c : Thread nD τ) ↦{fullShare.right} tab1 tb))

/-- The proof data of the one pipeline on core `c`. -/
def dats (_ : Fin 1) (c : Dev nD) : Dat τ (Elt Ideal) Unit ℕ (UR sig nD τ) ℕ (cfgA tb) c where
  A w := (s₀ m ρ).mem (((cfgA tb).win w).arr.view.loc (c : Thread nD τ))
  after w t := match w with
    | ⟨0, _⟩ => iblk tb m ρ c (0 : Fin 5) t
    | ⟨1, _⟩ => iblk tb m ρ c (1 : Fin 5) t
    | ⟨2, _⟩ => iblk tb m ρ c (2 : Fin 5) t
    | ⟨3, _⟩ => iblk tb m ρ c (3 : Fin 5) t
    | ⟨4, _⟩ => (traj0 tb m ρ c t.val t.isLt).1
  Φ t := Phi tb m ρ c t
  q _ := fullShare
  owed _ := 0

theorem after0_0 (c : Dev nD) (t : Fin (cfgA tb).N) : (dats tb m ρ 0 c).after (0 : Fin 5) t = iblk tb m ρ c (0 : Fin 5) t := rfl
theorem after0_1 (c : Dev nD) (t : Fin (cfgA tb).N) : (dats tb m ρ 0 c).after (1 : Fin 5) t = iblk tb m ρ c (1 : Fin 5) t := rfl
theorem after0_2 (c : Dev nD) (t : Fin (cfgA tb).N) : (dats tb m ρ 0 c).after (2 : Fin 5) t = iblk tb m ρ c (2 : Fin 5) t := rfl
theorem after0_3 (c : Dev nD) (t : Fin (cfgA tb).N) : (dats tb m ρ 0 c).after (3 : Fin 5) t = iblk tb m ρ c (3 : Fin 5) t := rfl
theorem after0_4 (c : Dev nD) (t : Fin (cfgA tb).N) : (dats tb m ρ 0 c).after (4 : Fin 5) t = (traj0 tb m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA tb).N) (d) : (dats tb m ρ 0 c).before (0 : Fin 5) t d = iblk tb m ρ c (0 : Fin 5) t :=
  ((dats tb m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA tb).N) (d) : (dats tb m ρ 0 c).before (1 : Fin 5) t d = iblk tb m ρ c (1 : Fin 5) t :=
  ((dats tb m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA tb).N) (d) : (dats tb m ρ 0 c).before (2 : Fin 5) t d = iblk tb m ρ c (2 : Fin 5) t :=
  ((dats tb m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA tb).N) (d) : (dats tb m ρ 0 c).before (3 : Fin 5) t d = iblk tb m ρ c (3 : Fin 5) t :=
  ((dats tb m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA tb).N) (ht : t.val ≠ 0), (cfgA tb).idle (4 : Fin 5) ((cfgA tb).grid.coords t) = true → (cfgA tb).fresh (4 : Fin 5) t.val = false →
    (dats tb m ρ 0 c).after (4 : Fin 5) t = (dats tb m ρ 0 c).after (4 : Fin 5) ⟨t.val - 1, by omega⟩ := by
  intro t ht hi hf
  rw [after0_4, after0_4, traj0_eq]
  by_cases q0 : P0_0 tb t
  · by_cases q1 : P0_1 tb t
    · rw [step0_A tb m ρ c t _ q0 q1]
      simp only [hf, Bool.false_eq_true, ↓reduceIte]
      unfold prev0; rw [dif_neg ht]
    · by_cases q2 : P0_2 tb t
      · obtain ⟨i4, -, -⟩ := sched0_C tb t q0 q1 q2
        rw [i4] at hi; exact absurd hi (by decide)
      · rw [step0_B tb m ρ c t _ q0 q1 q2]
        simp only [hf, Bool.false_eq_true, ↓reduceIte]
        unfold prev0; rw [dif_neg ht]
  · by_cases q1 : P0_3 tb t
    · obtain ⟨i4, -, -⟩ := sched0_E tb t q0 q1
      rw [i4] at hi; exact absurd hi (by decide)
    · rw [step0_D tb m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA tb).N) (d) :
    (dats tb m ρ 0 c).before (4 : Fin 5) t d = if (cfgA tb).fresh (4 : Fin 5) t.val then d else (prev0 tb m ρ c t).1 := by
  rw [(dats tb m ρ 0 c).before_out_traj (4 : Fin 5) rfl (fun _ _ => rfl) (hcarry0_4 tb m ρ c) t.val t rfl d]
  by_cases hf : (cfgA tb).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA tb).N) : Prog (TpuEff nD τ sig (Elt Ideal) Λ₀ .tc) PUnit :=
  cc0_moe_experts (crd tb t) (Memref.whole main_arg0) (Memref.isWhole_whole _) (Memref.whole main_arg1) (Memref.isWhole_whole _) (ms0_0 tb t) (hs0_0 tb t) (ms0_1 tb t) (hs0_1 tb t) (ms0_2 tb t) (hs0_2 tb t) (ms0_3 tb t) (hs0_3 tb t) (ms0_4 tb t) (hs0_4 tb t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Held tb m) (c : Dev nD) (t : Fin (cfgA tb).N) :
    iprop((dats tb m ρ 0 c).Φ t.castSucc ∗ (dats tb m ρ 0 c).owesAt () t.castSucc
        ∗ (∃ d, owns (c : Thread nD τ) (ms0_0 tb t) fullShare ((dats tb m ρ 0 c).before (0 : Fin 5) t d))
        ∗ (∃ d, owns (c : Thread nD τ) (ms0_1 tb t) fullShare ((dats tb m ρ 0 c).before (1 : Fin 5) t d))
        ∗ (∃ d, owns (c : Thread nD τ) (ms0_2 tb t) fullShare ((dats tb m ρ 0 c).before (2 : Fin 5) t d))
        ∗ (∃ d, owns (c : Thread nD τ) (ms0_3 tb t) fullShare ((dats tb m ρ 0 c).before (3 : Fin 5) t d))
        ∗ (∃ d, owns (c : Thread nD τ) (ms0_4 tb t) fullShare ((dats tb m ρ 0 c).before (4 : Fin 5) t d)))
      ⊢ wp frame (wpE (defs₀ (F := Ideal)) Variants.none c none) Set.univ (bodyAt0 tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  by_cases q0 : P0_0 tb t
  · by_cases q1 : P0_1 tb t
    · obtain ⟨i4, f4, fr4⟩ := sched0_A tb t q0 q1
      have F0 := hyps0_A tb t q0 q1
      have k0_h1 := F0.1; have F1 := F0.2
      have k0_h2 := F1.1; have F2 := F1.2
      have k0_h3 := F2.1; have F3 := F2.2
      have k0_h4 := F3.1; have F4 := F3.2
      have k0_h5 := F4.1; have F5 := F4.2
      clear F0 F1 F2 F3 F4 F5
      rewrite [i4]
      simp only [before0_0, before0_1, before0_2, before0_3, before0_4, after0_0, after0_1, after0_2, after0_3, after0_4, f4]
      simp only [fr4, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_A tb m ρ c t _ q0 q1]
      unfold Phi; simp only [prev0T_castSucc, prev0T_succ, traj0_eq, step0_A tb m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_A c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) k0_h1 k0_h2 k0_h3 k0_h4 k0_h5).2 _ a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · by_cases q2 : P0_2 tb t
      · obtain ⟨i4, f4, fr4⟩ := sched0_C tb t q0 q1 q2
        have sf0 : sfresh t.val = false := not_first t fun h => q1 (first_of_zero tb t h)
        have F0 := hyps0_C tb t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        clear F0 F1 F2 F3 F4 F5
        rewrite [i4]
        simp only [before0_0, before0_1, before0_2, before0_3, before0_4, after0_0, after0_1, after0_2, after0_3, after0_4, f4]
        simp only [fr4, Bool.false_eq_true, ↓reduceIte]
        rewrite [show (dats tb m ρ 0 c).Φ t.succ = Phi tb m ρ c t.succ from rfl, show (dats tb m ρ 0 c).Φ t.castSucc = Phi tb m ρ c t.castSucc from rfl,
          show (dats tb m ρ 0 c).owesAt () t.succ = (dats tb m ρ 0 c).owesAt () t.castSucc from rfl]
        try rewrite [traj0_eq, step0_C tb m ρ c t _ q0 q1 q2]
        unfold Phi; simp only [prev0T_castSucc, prev0T_succ, traj0_eq, step0_C tb m ρ c t _ q0 q1 q2, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_C c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) _ k0_h1 k0_h2 k0_h3 k0_h4 k0_h5).2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        iintro ⟨H0, H1, H2, H3, HT0, HT1, ⟨%e4, H4⟩, HS0⟩
        isplitl [HS0 HT0 HT1]
        · isplitl [HS0]
          · iexists _; isplitr; swap
            · iexact HS0
            · ipureintro; intro _; rfl
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _ _ _)
      · obtain ⟨i4, f4, fr4⟩ := sched0_B tb t q0 q1 q2
        have sf0 : sfresh t.val = false := not_first t fun h => q1 (first_of_zero tb t h)
        have F0 := hyps0_B tb t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        clear F0 F1 F2 F3 F4 F5
        rewrite [i4]
        simp only [before0_0, before0_1, before0_2, before0_3, before0_4, after0_0, after0_1, after0_2, after0_3, after0_4, f4]
        simp only [fr4, Bool.false_eq_true, ↓reduceIte]
        rewrite [show (dats tb m ρ 0 c).Φ t.succ = Phi tb m ρ c t.succ from rfl, show (dats tb m ρ 0 c).Φ t.castSucc = Phi tb m ρ c t.castSucc from rfl,
          show (dats tb m ρ 0 c).owesAt () t.succ = (dats tb m ρ 0 c).owesAt () t.castSucc from rfl]
        try rewrite [traj0_eq, step0_B tb m ρ c t _ q0 q1 q2]
        unfold Phi; simp only [prev0T_castSucc, prev0T_succ, traj0_eq, step0_B tb m ρ c t _ q0 q1 q2, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_B c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) _ k0_h1 k0_h2 k0_h3 k0_h4 k0_h5).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro _; rfl
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
  · by_cases q1 : P0_3 tb t
    · obtain ⟨i4, f4, fr4⟩ := sched0_E tb t q0 q1
      have sf0 : sfresh t.val = false := not_first t fun h => q0 (hp.2.2 t h)
      have F0 := hyps0_E tb t q0 q1
      have k0_h1 := F0.1; have F1 := F0.2
      have k0_h5 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_E tb m ρ c t _ q0 q1]
      unfold Phi; simp only [prev0T_castSucc, prev0T_succ, traj0_eq, step0_E tb m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_E c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) _ k0_h1 k0_h5).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_E_4 c _ _ _ _ _ _ _ _ _ _ _ _ _ _ _ _ _ _ _ _)
    · obtain ⟨i4, f4, fr4⟩ := sched0_D tb t q0 q1
      have sf0 : sfresh t.val = false := not_first t fun h => q0 (hp.2.2 t h)
      have F0 := hyps0_D tb t q0 q1
      have k0_h1 := F0.1; have F1 := F0.2
      have k0_h5 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_D tb m ρ c t _ q0 q1]
      unfold Phi; simp only [prev0T_castSucc, prev0T_succ, traj0_eq, step0_D tb m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_D c (crd tb t) (ms0_0 tb t) (hs0_0 tb t) (ms0_1 tb t) (hs0_1 tb t) (ms0_2 tb t) (hs0_2 tb t) (ms0_3 tb t) (hs0_3 tb t) (ms0_4 tb t) (hs0_4 tb t) (tab0 tb) (tab1 tb) (iblk tb m ρ c (0 : Fin 5) t) (iblk tb m ρ c (1 : Fin 5) t) (iblk tb m ρ c (2 : Fin 5) t) (iblk tb m ρ c (3 : Fin 5) t) _ k0_h1 k0_h5).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (hp : Held tb m) (c : Dev nD) : BodyObligation (dats tb m ρ 0 c) (defs₀ (F := Ideal)) Variants.none () Set.univ := fun t => by
  rw [bigSep_W0]
  exact sound_body tb m ρ hp c t

/-! ## The launch -/

/-- The rounds library's launch element. -/
def u₀ : UR sig nD τ :=
  initOf (Pipeline.cells (pcs tb) ((launch0 (F := Ideal)).cellOf_inj fun _ => tb))
    (Pipeline.launchToks (pcs tb) ((launch0 (F := Ideal)).cellOf_inj fun _ => tb))

theorem share_eq (c : Dev nD) (w : Fin (cfgA tb).W) : (dats tb m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) tb.1 ∗ Pipeline.scopedRest spec0 c) ⊢ (dats tb m ρ 0 c).Φ 0 := by
  rw [prefHeld_eq, scopedRest0_eq, show (dats tb m ρ 0 c).Φ 0 = Phi tb m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh 0 = true from rfl)) Bool.false_ne_true
  isplitl [HT0]
  · iexact HT0
  iexact HT1

/-- at the last point it gives the scratch buffers back (`hout`), the tables let go. -/
theorem phiN_exit (c : Dev nD) : (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = tb.1 j

theorem V_pre (hp : Held tb m) (c : Dev nD) (j : Fin 2) : m ((c : Thread nD τ).loc (pre0.ref j)) = tb.1 j := by
  fin_cases j
  · exact hp.1 c
  · exact hp.2.1 c

set_option backward.isDefEq.respectTransparency.types false in
set_option maxHeartbeats 4000000 in
/-- At the compiled mesh, from any memory with zero counters whose tables and steering words are member `tb`'s: every weakly
    fair execution of @main on the TensorCores terminates, and every final state has each array at the computed contents,
    and every semaphore counter of the machine at zero. -/
theorem run_main_quiescent (hp : Held tb m) : θ_run (defs (F := Ideal)) (onTc (τ := τ) (main (F := Ideal))) (s₀ m ρ) (fun r => QC tb m ρ r ∧ r.2.sem = fun _ => 0) :=
  Pipeline.θ_run_region_noSem_pf_quiescent pcfgs (fun _ => tb) (dats tb m ρ) () ((launch0 (F := Ideal)).cellOf_inj fun _ => tb) (0 : Fin 1)
    (launch0 (F := Ideal)).win.to₀ (launch0 (F := Ideal)).pre EP defs₀ Variants.none m ρ main
    (hbody := fun c => (body_obligation tb m ρ hp c).loose) (hne := (launch0 (F := Ideal)).block_pos)
    (harr := (launch0 (F := Ideal)).arr_whole) (hstage := (launch0 (F := Ideal)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Ideal)).win.arr_inj c (launch0 (F := Ideal)).arr_whole
      (share_eq tb m ρ c) _ _ fun _ => rfl)
    (hpf := V_pre tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Held tb m) : θ_run (defs (F := Ideal)) (onTc (τ := τ) (main (F := Ideal))) (s₀ m ρ) (QC tb m ρ) :=
  (θ_run defs _ _).mono (fun _ h => h.1) (run_main_quiescent tb m ρ hp)

/-- `frame` without the counters: the argument arrays end unchanged. -/
theorem unchanged (hp : Held tb m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2.1 c).symm, ((h c).1 (0 : Fin 5)).trans ((dats tb m ρ 0 c).arrAt_in (0 : Fin 5) rfl _), ((h c).1 (1 : Fin 5)).trans ((dats tb m ρ 0 c).arrAt_in (1 : Fin 5) rfl _), ((h c).1 (2 : Fin 5)).trans ((dats tb m ρ 0 c).arrAt_in (2 : Fin 5) rfl _), ((h c).1 (3 : Fin 5)).trans ((dats tb m ρ 0 c).arrAt_in (3 : Fin 5) rfl _)⟩) (run_main tb m ρ hp)

/-- THE FRAME under the pinning: from a launch memory whose tables and steering words are member `tb`'s, every weakly fair
    execution terminates, nothing faults, every argument array ends unchanged and every semaphore counter of the machine reads
    zero at every final state — `Cert.quiescent_MoeIdeal`'s post.
    Proof.lean: `theorem Cert.Proof.claim : Cert.Claim := ⟨Cert.MoeIdeal.Gen.facts, <Pre>.Gen.facts, fun m ρ h => (pinned_of_pre m h).elim fun tb hp => Cert.MoeIdeal.Gen.frame tb m ρ hp⟩`. -/
theorem frame (hp : Held tb m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged tb m ρ hp) ((θ_run defs _ _).mono (fun _ h => h.2) (run_main_quiescent tb m ρ hp))

end Cert.Proof.Moe.MoeIdeal

end
-- ==== Proof.Moe.MoeIdeal.Tables.lean ====
module

public import proofs.«01_k».proof.Proof.Moe.MoeIdeal.Frame
public import proofs.«01_k».proof.Proof.Gen.Pre_routed
public import Idealize.ShloMosaic.Lib.ReduceAll

/-! # The tables the precondition admits

`routed` says that every block's expert is one of the eight and that a block is in use. Then every
window's blocks lie inside its array, and the first block is in use. -/

@[expose] public section

set_option maxRecDepth 16384

noncomputable section

namespace Cert.Proof.Moe.MoeIdeal

open Cert.MoeIdeal Cert.MoeIdeal.Gen
open Idealize.ShloMosaic
open Idealize.ShloMosaic.TcCoe
open Idealize.SL.Sem

variable (m : (ℓ : Loc nD τ sig) → Buf (Elt Ideal) ℓ)

theorem and_bits : ∀ a b : BitVec 1, IntOp.andi a b = 1#1 → a = 1#1 ∧ b = 1#1 := by decide

/-- The precondition read at every word of the two tables. -/
theorem words (h : Cert.Pre_MoeIdeal m) (c : Dev nD) :
    (∀ x : S72.Idx, (m ((c : Thread nD τ).loc main_arg0) x : BitVec 32).toNat < 8)
    ∧ ∀ x : S1.Idx, 1 ≤ (m ((c : Thread nD τ).loc main_arg1) x : BitVec 32).toNat
        ∧ (m ((c : Thread nD τ).loc main_arg1) x : BitVec 32).toNat < 2 ^ 31 := by
  have e := congrFun (h c) (fun a => a.elim0)
  dsimp only [Cert.Pre_routed.fn] at e
  obtain ⟨e1, e2⟩ := and_bits _ _ e
  obtain ⟨e1a, e1b⟩ := and_bits _ _ e1
  constructor
  · intro x
    have a1 := IntOp.cmpi_sge.1 (Host.reduce_andi_all _ _ _ _ _ e1a x)
    have a2 := IntOp.cmpi_slt.1 (Host.reduce_andi_all _ _ _ _ _ e1b x)
    simp only [broadcastInDim, constantI, BitVec.toInt, BitVec.toNat_ofNat] at a1 a2
    omega
  · intro x
    have a1 := IntOp.cmpi_sge.1 (Host.reduce_andi_all _ _ _ _ _ e2 x)
    simp only [broadcastInDim, constantI, BitVec.toInt, BitVec.toNat_ofNat] at a1
    omega

/-- A block is in use when its number is below the count. -/
theorem used_iff (i : grid0.Coords) (w : BitVec 32) (hw : w.toNat < 2 ^ 31) : k0_cond1 i w = 1#1 ↔ (i 0).val < w.toNat := by
  have hi : (i 0).val < 72 := (i 0).isLt
  have key : ∀ b : BitVec 1, Scalar.cmpi .ne (Scalar.extui b : BitVec 32) 0#32 = 1#1 ↔ b = 1#1 := by decide
  refine (key _).trans (IntOp.cmpi_slt.trans ?_)
  rw [BitVec.toInt_eq_toNat_of_lt (by rw [BitVec.toNat_ofNat]; omega), BitVec.toInt_eq_toNat_of_lt (by omega), BitVec.toNat_ofNat]
  omega

/-- The block of rows the first window takes: the point's, or the last one in use. -/
theorem row_word (k : ℕ) (hk : k < 72) (w : BitVec 32) (h1 : 1 ≤ w.toNat) (h2 : w.toNat < 2 ^ 31) :
    (Scalar.minsi (BitVec.ofNat 32 k) (Scalar.subi w 1#32)).toNat = min k (w.toNat - 1) := by
  have hs : (w - 1#32).toNat = w.toNat - 1 := by rw [BitVec.toNat_sub]; simp; omega
  have hk' : (BitVec.ofNat 32 k).toNat = k := by rw [BitVec.toNat_ofNat]; omega
  have e : Scalar.minsi (BitVec.ofNat 32 k) (Scalar.subi w 1#32) = if (BitVec.ofNat 32 k).slt (w - 1#32) then BitVec.ofNat 32 k else w - 1#32 := rfl
  rw [e]
  have hl : (BitVec.ofNat 32 k).slt (w - 1#32) = decide (k < w.toNat - 1) := by
    rw [BitVec.slt, BitVec.toInt_eq_toNat_of_lt (by omega), BitVec.toInt_eq_toNat_of_lt (by omega), hs, hk']
    simp
  rw [hl]
  by_cases hc : k < w.toNat - 1
  · simp only [hc, decide_true, ↓reduceIte, hk']; omega
  · simp only [hc, decide_false, Bool.false_eq_true, ↓reduceIte, hs]; omega

/-- Tables of that range are admissible. -/
theorem ok_of (pf : pre0.Contents (Elt Ideal)) (h0 : ∀ x : S72.Idx, (pf 0 x : BitVec 32).toNat < 8)
    (h1 : ∀ x : S1.Idx, 1 ≤ (pf 1 x : BitVec 32).toNat ∧ (pf 1 x : BitVec 32).toNat < 2 ^ 31) : ok0 (F := Ideal) pf := by
  have r0 (i : grid0.Coords) : (i 0).val < 72 := (i 0).isLt
  have r1 (i : grid0.Coords) : (i 1).val < 4 := (i 1).isLt
  have n1 (i : grid0.Coords) : (BitVec.ofNat 32 (i 1).val).toNat = (i 1).val := by
    rw [BitVec.toNat_ofNat]; have := r1 i; omega
  have krow (k : ℕ) (hk : k < 72) (w : BitVec 32) (h1 : 1 ≤ w.toNat) (h2 : w.toNat < 2 ^ 31) :
      ((Scalar.minsi (BitVec.ofNat 32 k) (Scalar.subi w 1#32)).toNat + 1) * 512 ≤ 36864 := by
    rw [row_word k hk w h1 h2]; omega
  have kexp (w : BitVec 32) (h : w.toNat < 8) : (w.toNat + 1) * 1 ≤ 8 := by omega
  refine ⟨fun i => ⟨?_, .inr (Affine.block_words_dvd (s := S36864x1024) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · intro a
    fin_cases a
    · exact krow _ (r0 i) _ (h1 _).1 (h1 _).2
    · show (0 + 1) * 1024 ≤ 1024
      omega
  · intro a
    fin_cases a
    · exact kexp _ (h0 _)
    · show (0 + 1) * 1024 ≤ 1024
      omega
    · show ((BitVec.ofNat 32 (i 1).val).toNat + 1) * 896 ≤ 3584
      rw [n1]; have := r1 i; omega
  · intro a
    fin_cases a
    · exact kexp _ (h0 _)
    · show (0 + 1) * 1024 ≤ 1024
      omega
    · show ((BitVec.ofNat 32 (i 1).val).toNat + 1) * 896 ≤ 3584
      rw [n1]; have := r1 i; omega
  · intro a
    fin_cases a
    · exact kexp _ (h0 _)
    · show ((BitVec.ofNat 32 (i 1).val).toNat + 1) * 896 ≤ 3584
      rw [n1]; have := r1 i; omega
    · show (0 + 1) * 1024 ≤ 1024
      omega

theorem row_zero : ∀ t : Fin grid0.N, t.val = 0 → (grid0.coords t 0).val = 0 := by decide +kernel

/-- Every memory the precondition admits holds admissible tables, the first block in use. -/
theorem exists_held (h : Cert.Pre_MoeIdeal m) : ∃ tb : (pcfg0 (F := Ideal)).Adm, Held tb m := by
  have one : ∀ c : Dev nD, c = 0 := by decide
  have w := words m h 0
  refine ⟨⟨fun j => m (((0 : Dev nD) : Thread nD τ).loc (pre0.ref j)), ok_of _ w.1 w.2⟩, fun c => by rw [one c]; rfl, fun c => by rw [one c]; rfl, fun t ht => ?_⟩
  refine (used_iff _ _ (w.2 _).2).2 ?_
  rw [show ((grid0.coords t) 0).val = 0 from row_zero t ht]
  exact (w.2 _).1

/-- The frame, from every memory the precondition admits. -/
theorem frame_routed (h : Cert.Pre_MoeIdeal m) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (exists_held m h).elim fun tb hp => frame tb m ρ hp

end Cert.Proof.Moe.MoeIdeal

end
-- ==== Proof.Moe.Spec.lean ====
/-
  The reference of the experts' call: each row through its block's expert, the blocks past the count at zero.
-/
module

public import proofs.«01_k».proof.Proof.Gen.MoeRefIdeal
public import Idealize.ShloMosaic.Lib.Pointwise
public import Idealize.ShloMosaic.Lib.StableHlo.Predicate

@[expose] public section

set_option maxRecDepth 16384

noncomputable section

namespace Cert.Proof.Moe

open Idealize.ShloMosaic Idealize.ShloMosaic.TcCoe Idealize.SL.Sem

section

/-- The dimension numbers of one matrix per entry of a list of their numbers. -/
abbrev matrixDims (N A B n : ℕ) (wf : GatherDims.WF (⟨3, ![N, A, B]⟩ : Shape) (⟨2, ![n, 1]⟩ : Shape) (⟨3, ![n, A, B]⟩ : Shape) [1, 2] [0] [] [0] [] 1 ![1, A, B]) :
    GatherDims (⟨3, ![N, A, B]⟩ : Shape) (⟨2, ![n, 1]⟩ : Shape) (⟨3, ![n, A, B]⟩ : Shape) where
  offsetDims := [1, 2]
  collapsedSliceDims := [0]
  operandBatchingDims := []
  startIndicesBatchingDims := []
  startIndexMap := [0]
  indexVectorDim := 1
  sliceSizes := ![1, A, B]
  wf := wf

/-- Entry `(t, a, b)` of the result is that of the matrix numbered at `t`. -/
theorem gather_matrix {α : Type} {N A B n : ℕ} (wf : GatherDims.WF (⟨3, ![N, A, B]⟩ : Shape) (⟨2, ![n, 1]⟩ : Shape) (⟨3, ![n, A, B]⟩ : Shape) [1, 2] [0] [] [0] [] 1 ![1, A, B])
    (x : (⟨3, ![N, A, B]⟩ : Shape).Idx → α) (idx : IVec (⟨2, ![n, 1]⟩ : Shape) 32)
    (t : Fin n) (a : Fin A) (b : Fin B) (e : Fin N) (he : (idx (ix2 t (0 : Fin 1))).toInt = e.val) :
    Host.gather (matrixDims N A B n wf) x idx (ix3 t a b) = x (ix3 e a b) := by
  unfold Host.gather
  refine congrArg x (funext fun k => Fin.ext ?_)
  show (matrixDims N A B n wf).start (ix3 t a b) idx k + (matrixDims N A B n wf).batchCoord (ix3 t a b) k + (matrixDims N A B n wf).offCoord (ix3 t a b) k = _
  rw [GatherDims.batchCoord_eq_zero _ _ _ List.not_mem_nil, Nat.add_zero]
  have hk : k = 0 ∨ k = 1 ∨ k = 2 := by
    match k with
    | ⟨0, _⟩ => exact .inl rfl
    | ⟨1, _⟩ => exact .inr (.inl rfl)
    | ⟨2, _⟩ => exact .inr (.inr rfl)
  rcases hk with rfl | rfl | rfl
  · rw [GatherDims.offCoord_eq_zero _ _ _ (fun h => ((GatherDims.mem_sKept _ _).mp h).1 (List.mem_singleton.mpr rfl)), Nat.add_zero]
    unfold GatherDims.start
    rw [dif_pos (List.mem_singleton.mpr rfl)]
    have hsi : (matrixDims N A B n wf).siIdx (ix3 t a b) ⟨List.idxOf (0 : Fin 3) (matrixDims N A B n wf).startIndexMap,
        List.idxOf_lt_length_iff.2 (List.mem_singleton.mpr rfl)⟩ = ix2 t (0 : Fin 1) := by
      funext j; refine Fin.ext ?_
      match j with
      | ⟨0, _⟩ => rfl
      | ⟨1, _⟩ => rfl
    have hlt := e.isLt
    refine (congrArg (fun z : BitVec 32 => min z.toInt.toNat (N - 1)) (congrArg idx hsi)).trans ?_
    show min (idx (ix2 t (0 : Fin 1))).toInt.toNat (N - 1) = e.val
    rw [he]
    omega
  · unfold GatherDims.start GatherDims.offCoord
    rw [dif_neg (show (1 : Fin 3) ∉ ([0] : List (Fin 3)) by decide), dif_pos ((GatherDims.mem_sKept _ _).2 ⟨show (1 : Fin 3) ∉ ([0] : List (Fin 3)) by decide, List.not_mem_nil⟩), Nat.zero_add]
    rfl
  · unfold GatherDims.start GatherDims.offCoord
    rw [dif_neg (show (2 : Fin 3) ∉ ([0] : List (Fin 3)) by decide), dif_pos ((GatherDims.mem_sKept _ _).2 ⟨show (2 : Fin 3) ∉ ([0] : List (Fin 3)) by decide, List.not_mem_nil⟩), Nat.zero_add]
    rfl

end

section

open Cert.MoeRefIdeal Cert.MoeRefIdeal.Gen

variable (E : IVec S72 32) (n : IVec S1 32) (X : FVec Ideal S36864x1024 .bf16) (Wg Wu : FVec Ideal S8x1024x3584 .bf16) (Wd : FVec Ideal S8x3584x1024 .bf16)

/-- The blocks' experts, a negative number read from the end. -/
def experts : IVec S72x1 32 :=
  broadcastInDim S72x1 ![0] bcast_S72_S72x1_0 (select (cmpi .slt E (broadcastInDim S72 ![] bcast_S_S72 (constantI S_ 32 0#32))) (addi E (broadcastInDim S72 ![] bcast_S_S72 (constantI S_ 32 8#32))) E)

/-- The rows by blocks, and the two projections of each block by its expert. -/
def blocks : FVec Ideal S72x512x1024 .f32 := shapeCast _ (extf .f32 X bitsLt_bf16_f32) shapeCasts_S36864x1024_S72x512x1024
def proj (W : FVec Ideal S8x1024x3584 .bf16) : FVec Ideal S72x512x3584 .f32 :=
  Host.dotGeneral dot_S72x512x1024_S72x1024x3584_S72x512x3584_2_1_1_2_0_0 none (blocks X)
    (extf .f32 (Host.gather gather_S8x1024x3584_S72x1_S72x1024x3584_12_0_n_n_0_1_110243584 W (experts E)) bitsLt_bf16_f32)

/-- The blocks' results. -/
def outs : FVec Ideal S72x512x1024 .f32 :=
  Host.dotGeneral dot_S72x512x3584_S72x3584x1024_S72x512x1024_2_1_1_2_0_0 none
    (mulf (mulf (proj E X Wg) (Host.divf (broadcastInDim S72x512x3584 ![] bcast_S_S72x512x3584 (constant S_ .f32 0x3F800000#32)) (addf (broadcastInDim S72x512x3584 ![] bcast_S_S72x512x3584 (constant S_ .f32 0x3F800000#32)) (Host.exp (Host.negf (proj E X Wg)))))) (proj E X Wu))
    (extf .f32 (Host.gather gather_S8x3584x1024_S72x1_S72x3584x1024_12_0_n_n_0_1_135841024 Wd (experts E)) bitsLt_bf16_f32)

/-- The reference's result. -/
def REF : FVec Ideal S36864x1024 .f32 :=
  shapeCast _ (select (broadcastInDim S72x512x1024 ![0, 1, 2] bcast_S72x1x1_S72x512x1024_0_1_2 (broadcastInDim S72x1x1 ![0] bcast_S72_S72x1x1_0 (cmpi .slt (iotaInDim S72 32 0) (broadcastInDim S72 ![] bcast_S_S72 (shapeCast _ n shapeCasts_S1_S_)))))
    (outs E X Wg Wu Wd) (broadcastInDim S72x512x1024 ![] bcast_S_S72x512x1024 (id (constant S_ .f32 0x00000000#32)))) shapeCasts_S72x512x1024_S36864x1024

/-- A hidden lane's share of an element: row `R`, the expert `e`, the hidden lane `k`, the result's lane `l`. -/
def term (R : Fin 36864) (e : Fin 8) (k : Fin 3584) (l : Fin 1024) : EReal :=
  (∑ d : Fin 1024, (X (ix2 R d) : EReal) * Wg (ix3 e d k)) * Ideal.div 1 (1 + Ideal.exp (-∑ d : Fin 1024, (X (ix2 R d) : EReal) * Wg (ix3 e d k)))
    * (∑ d : Fin 1024, (X (ix2 R d) : EReal) * Wu (ix3 e d k)) * Wd (ix3 e k l)

theorem experts_apply (i : Fin 72) (h : (E (ix1 i)).toNat < 8) : (experts E (ix2 i (0 : Fin 1))).toInt = ((E (ix1 i)).toNat : ℤ) := by
  pointwise [experts]
  have hi : (E (ix1 i)).toInt = ((E (ix1 i)).toNat : ℤ) := BitVec.toInt_eq_toNat_of_lt (by omega)
  have hc : IntOp.cmpi .slt (E (ix1 i)) 0#32 ≠ 1#1 := fun hc => by
    have := IntOp.cmpi_slt.1 hc
    rw [hi] at this
    exact absurd this (by show ¬ (((E (ix1 i)).toNat : ℤ) < 0); omega)
  exact (congrArg BitVec.toInt (if_neg hc)).trans hi

theorem proj_apply (W : FVec Ideal S8x1024x3584 .bf16) (i : Fin 72) (r : Fin 512) (k : Fin 3584) (e : Fin 8) (he : (E (ix1 i)).toNat = e.val) (R : Fin 36864) (hR : R.val = i.val * 512 + r.val) :
    (proj E X W (ix3 i r k) : EReal) = ∑ d : Fin 1024, (X (ix2 R d) : EReal) * W (ix3 e d k) := by
  have hg (d : Fin 1024) : Host.gather gather_S8x1024x3584_S72x1_S72x1024x3584_12_0_n_n_0_1_110243584 W (experts E) (ix3 i d k) = W (ix3 e d k) :=
    gather_matrix _ W _ i d k e (by rw [experts_apply E i (by omega), he])
  pointwise [proj, blocks]
  exact Finset.sum_congr rfl fun d _ => congrArg₂ (· * ·) (congrArg X (congrArg (fun z => ix2 z d) (Fin.ext hR.symm))) (hg d)

theorem outs_apply (i : Fin 72) (r : Fin 512) (l : Fin 1024) (e : Fin 8) (he : (E (ix1 i)).toNat = e.val) (R : Fin 36864) (hR : R.val = i.val * 512 + r.val) :
    (outs E X Wg Wu Wd (ix3 i r l) : EReal) = ∑ k : Fin 3584, term X Wg Wu Wd R e k l := by
  have hg (k : Fin 3584) : Host.gather gather_S8x3584x1024_S72x1_S72x3584x1024_12_0_n_n_0_1_135841024 Wd (experts E) (ix3 i k l) = Wd (ix3 e k l) :=
    gather_matrix _ Wd _ i k l e (by rw [experts_apply E i (by omega), he])
  unfold term
  pointwise [outs]
  exact Finset.sum_congr rfl fun k _ => by rw [hg, proj_apply E X Wg i r k e he R hR, proj_apply E X Wu i r k e he R hR]

theorem REF_apply (R : Fin 36864) (l : Fin 1024) (e : Fin 8) (he : (E (ix1 ⟨R.val / 512, by omega⟩)).toNat = e.val) (hn : (n (ix1 0)).toNat < 2 ^ 31) :
    (REF E n X Wg Wu Wd (ix2 R l) : EReal) = if R.val / 512 < (n (ix1 0)).toNat then ∑ k : Fin 3584, term X Wg Wu Wd R e k l else 0 := by
  pointwise [REF]
  have hR := R.isLt
  rw [outs_apply E X Wg Wu Wd _ _ l e he R (by show R.val = R.val / 512 * 512 + R.val % 512; omega)]
  have hw : (BitVec.ofNat 32 (R.val / 512)).toNat = R.val / 512 := by rw [BitVec.toNat_ofNat]; omega
  have hc : IntOp.cmpi .slt (BitVec.ofNat 32 (R.val / 512)) (n (ix1 0)) = 1#1 ↔ R.val / 512 < (n (ix1 0)).toNat := by
    refine IntOp.cmpi_slt.trans ?_
    rw [BitVec.toInt_eq_toNat_of_lt (by omega), BitVec.toInt_eq_toNat_of_lt (by omega), hw]
    omega
  by_cases h : R.val / 512 < (n (ix1 0)).toNat
  · rw [if_pos h]; exact if_pos (hc.2 h)
  · rw [if_neg h]; exact (if_neg (mt hc.1 h)).trans (by rw [id_eq]; pointwise [])

end

end Cert.Proof.Moe

end
-- ==== Proof.Moe.Value.lean ====
/-
  The experts' call: what its array holds after the run.
-/
module

public import proofs.«01_k».proof.Proof.Moe.MoeIdeal.Tables
public import proofs.«01_k».proof.Proof.Moe.Spec
public import proofs.«01_k».proof.Proof.Gen.MoeRefIdeal.Run
public import Idealize.ShloMosaic.Lib.Pipeline.ValueKit
public import Idealize.ShloMosaic.Lib.Claim

@[expose] public section

set_option maxRecDepth 16384

noncomputable section

namespace Cert.Proof.Moe.Value

open Cert.MoeIdeal Cert.MoeIdeal.Gen
open Idealize.ShloMosaic Idealize.ShloMosaic.TcCoe Idealize.SL.Sem
open Idealize.ShloMosaic.Pipeline (Dat)
open Cert.Proof.Moe.MoeIdeal

variable (tb : (pcfg0 (F := Ideal)).Adm) (m : (ℓ : Loc nD τ sig) → Buf (Elt Ideal) ℓ) (ρ : Dev nD → PrngReg)

theorem place : ∀ t : Fin grid0.N, (grid0.coords t 0).val = t.val / 4 ∧ (grid0.coords t 1).val = t.val % 4 := by decide +kernel

/-- One point's share of the block: its hidden lanes' part of the second product. -/
def part (x : FVec Ideal S512x1024 .bf16) (wg wu : FVec Ideal S1x1024x896 .bf16) (wd : FVec Ideal S1x896x1024 .bf16) (r : Fin 512) (l : Fin 1024) : EReal :=
  ∑ k : Fin 896, (∑ d : Fin 1024, (x (ix2 r d) : EReal) * wg (ix3 0 d k)) * Ideal.div 1 (1 + Ideal.exp (-∑ d : Fin 1024, (x (ix2 r d) : EReal) * wg (ix3 0 d k)))
    * (∑ d : Fin 1024, (x (ix2 r d) : EReal) * wu (ix3 0 d k)) * wd (ix3 0 k l)

theorem pay1_apply (x : FVec Ideal S512x1024 .bf16) (wg wu : FVec Ideal S1x1024x896 .bf16) (wd : FVec Ideal S1x896x1024 .bf16) (r : Fin 512) (l : Fin 1024) :
    (k0_pay1 (F := Ideal) x wg wu wd (ix2 r l) : EReal) = part x wg wu wd r l := by
  unfold part
  pointwise [k0_pay1]
  simp only [zero_sub]

theorem pay2_apply (x : FVec Ideal S512x1024 .bf16) (wg wu : FVec Ideal S1x1024x896 .bf16) (wd : FVec Ideal S1x896x1024 .bf16) (r : Fin 512) (l : Fin 1024) :
    (k0_pay2 (F := Ideal) x wg wu wd (ix2 r l) : EReal) = part x wg wu wd r l := by
  rw [← pay1_apply]
  pointwise [k0_pay2]

theorem pay3_apply (x : FVec Ideal S512x1024 .bf16) (wg wu : FVec Ideal S1x1024x896 .bf16) (wd : FVec Ideal S1x896x1024 .bf16) (acc : FVec Ideal S512x1024 .f32) (r : Fin 512) (l : Fin 1024) :
    (k0_pay3 (F := Ideal) x wg wu wd acc (ix2 r l) : EReal) = acc (ix2 r l) + part x wg wu wd r l := by
  rw [← pay1_apply]
  pointwise [k0_pay3]

/-- The scratch as a block. -/
abbrev blk (c : Dev nD) (s : Buf (Elt Ideal) ((c : Thread nD τ).loc cc0_scratch0)) : FVec Ideal S512x1024 .f32 := scM0_0.view.read (Elt Ideal) s

theorem scratch_A (c : Dev nD) (t : Fin (cfgA tb).N) (prev : (S512x1024.Idx → Elt Ideal .f32) × Buf (Elt Ideal) ((c : Thread nD τ).loc cc0_scratch0)) (q0 : P0_0 tb t) (q1 : P0_1 tb t) :
    blk c (step0 tb m ρ c t prev).2 = k0_pay2 (F := Ideal) (iblk tb m ρ c 0 t) (iblk tb m ρ c 1 t) (iblk tb m ρ c 2 t) (iblk tb m ρ c 3 t) := by
  rw [step0_A tb m ρ c t prev q0 q1]
  unfold kernelRun0_A
  frame_out
  simp only [View.read_rep]

theorem scratch_B (c : Dev nD) (t : Fin (cfgA tb).N) (prev : (S512x1024.Idx → Elt Ideal .f32) × Buf (Elt Ideal) ((c : Thread nD τ).loc cc0_scratch0)) (q0 : P0_0 tb t) (q1 : ¬P0_1 tb t) (q2 : ¬P0_2 tb t) :
    blk c (step0 tb m ρ c t prev).2 = k0_pay3 (F := Ideal) (iblk tb m ρ c 0 t) (iblk tb m ρ c 1 t) (iblk tb m ρ c 2 t) (iblk tb m ρ c 3 t) (blk c prev.2) := by
  rw [step0_B tb m ρ c t prev q0 q1 q2]
  unfold kernelRun0_B
  frame_out
  simp only [View.read_rep]

theorem out_C (c : Dev nD) (t : Fin (cfgA tb).N) (prev : (S512x1024.Idx → Elt Ideal .f32) × Buf (Elt Ideal) ((c : Thread nD τ).loc cc0_scratch0)) (q0 : P0_0 tb t) (q1 : ¬P0_1 tb t) (q2 : P0_2 tb t) :
    (step0 tb m ρ c t prev).1 = k0_pay3 (F := Ideal) (iblk tb m ρ c 0 t) (iblk tb m ρ c 1 t) (iblk tb m ρ c 2 t) (iblk tb m ρ c 3 t) (blk c prev.2) := by
  rw [step0_C tb m ρ c t prev q0 q1 q2]
  unfold out0_C_4 kernelRun0_C
  frame_out
  simp only [View.read_rep]

theorem out_E (c : Dev nD) (t : Fin (cfgA tb).N) (prev : (S512x1024.Idx → Elt Ideal .f32) × Buf (Elt Ideal) ((c : Thread nD τ).loc cc0_scratch0)) (q0 : ¬P0_0 tb t) (q1 : P0_3 tb t) :
    (step0 tb m ρ c t prev).1 = k0_pay4 (F := Ideal) := by
  rw [step0_E tb m ρ c t prev q0 q1]
  unfold out0_E_4 kernelRun0_E
  frame_out

/-! ## The blocks of the arguments -/

variable (hp : Held tb m) (b0 : ∀ x : S72.Idx, (tab0 tb x : BitVec 32).toNat < 8)
  (b1 : ∀ x : S1.Idx, 1 ≤ (tab1 tb x : BitVec 32).toNat ∧ (tab1 tb x : BitVec 32).toNat < 2 ^ 31)

theorem word_tab : word tb = (tab1 tb (ix1 0) : BitVec 32) := by
  refine congrArg (tab1 tb) (funext fun (a : Fin 1) => Fin.ext ?_)
  obtain rfl : a = 0 := Subsingleton.elim _ _
  rfl

include b1 in
/-- The rows: the point's own block while it is in use. -/
theorem x_blk (c : Dev nD) (t : Fin (cfgA tb).N) (hu : P0_0 tb t) (r : Fin 512) (d : Fin 1024) (R : Fin 36864) (hR : R.val = t.val / 4 * 512 + r.val) :
    (iblk tb m ρ c 0 t : FVec Ideal S512x1024 .bf16) (ix2 r d) = (m ((c : Thread nD τ).loc main_arg2) : FVec Ideal S36864x1024 .bf16) (ix2 R d) := by
  have hw : 1 ≤ (word tb).toNat ∧ (word tb).toNat < 2 ^ 31 := by rw [word_tab]; exact b1 _
  have hi := (used_iff _ _ hw.2).1 hu
  have h0 : ((crd tb t) 0).val = t.val / 4 := (place t).1
  rw [h0] at hi
  have hrow : (Scalar.minsi (BitVec.ofNat 32 ((crd tb t) 0).val) (Scalar.subi (word tb) 1#32)).toNat = t.val / 4 := by
    rw [h0, row_word _ (by omega) _ hw.1 hw.2]; omega
  unfold iblk
  refine congrArg (m ((c : Thread nD τ).loc main_arg2) : FVec Ideal S36864x1024 .bf16) (funext fun a => Fin.ext ?_)
  match a with
  | ⟨0, _⟩ =>
    show (Scalar.minsi (BitVec.ofNat 32 ((crd tb t) 0).val) (Scalar.subi (word tb) 1#32)).toNat * 512 + 1 * r.val = R.val
    rw [hrow, hR]; omega
  | ⟨1, _⟩ =>
    show 0 * 1024 + 1 * d.val = d.val
    omega

theorem expert_tab (t : Fin (cfgA tb).N) (hlt : t.val / 4 < 72) :
    (tb.1.at 0 (Rect.unit (s := S72) ![(Scalar.indexCast (BitVec.ofNat 32 ((crd tb t) 0).val)).toNat] S1.size (k0_off1_inb (crd tb t))) numel1_S1 : BitVec 32) = (tab0 tb (ix1 ⟨t.val / 4, hlt⟩) : BitVec 32) := by
  refine congrArg (tab0 tb) (funext fun (a : Fin 1) => Fin.ext ?_)
  obtain rfl : a = 0 := Subsingleton.elim _ _
  have h0 : ((crd tb t) 0).val = t.val / 4 := (place t).1
  show (BitVec.ofNat 32 ((crd tb t) 0).val).toNat + 1 * 0 = t.val / 4
  rw [h0, BitVec.toNat_ofNat]
  omega

theorem chunk_word (t : Fin (cfgA tb).N) : (BitVec.ofNat 32 ((crd tb t) 1).val).toNat = t.val % 4 := by
  have h1 : ((crd tb t) 1).val = t.val % 4 := (place t).2
  rw [h1, BitVec.toNat_ofNat]; omega

/-- The first projection's block: the block's expert, the point's hidden lanes. -/
theorem wg_blk (c : Dev nD) (t : Fin (cfgA tb).N) (hlt : t.val / 4 < 72) (e : Fin 8) (he : (tab0 tb (ix1 ⟨t.val / 4, hlt⟩) : BitVec 32).toNat = e.val)
    (d : Fin 1024) (k : Fin 896) (K : Fin 3584) (hK : K.val = t.val % 4 * 896 + k.val) :
    (iblk tb m ρ c 1 t : FVec Ideal S1x1024x896 .bf16) (ix3 0 d k) = (m ((c : Thread nD τ).loc main_arg3) : FVec Ideal S8x1024x3584 .bf16) (ix3 e d K) := by
  unfold iblk
  refine congrArg (m ((c : Thread nD τ).loc main_arg3) : FVec Ideal S8x1024x3584 .bf16) (funext fun a => Fin.ext ?_)
  match a with
  | ⟨0, _⟩ =>
    show (tb.1.at 0 (Rect.unit (s := S72) ![(Scalar.indexCast (BitVec.ofNat 32 ((crd tb t) 0).val)).toNat] S1.size (k0_off1_inb (crd tb t))) numel1_S1 : BitVec 32).toNat * 1 + 1 * 0 = e.val
    rw [expert_tab tb t hlt, he]; omega
  | ⟨1, _⟩ =>
    show 0 * 1024 + 1 * d.val = d.val
    omega
  | ⟨2, _⟩ =>
    show (BitVec.ofNat 32 ((crd tb t) 1).val).toNat * 896 + 1 * k.val = K.val
    rw [chunk_word, hK]; omega

/-- The second projection's. -/
theorem wu_blk (c : Dev nD) (t : Fin (cfgA tb).N) (hlt : t.val / 4 < 72) (e : Fin 8) (he : (tab0 tb (ix1 ⟨t.val / 4, hlt⟩) : BitVec 32).toNat = e.val)
    (d : Fin 1024) (k : Fin 896) (K : Fin 3584) (hK : K.val = t.val % 4 * 896 + k.val) :
    (iblk tb m ρ c 2 t : FVec Ideal S1x1024x896 .bf16) (ix3 0 d k) = (m ((c : Thread nD τ).loc main_arg4) : FVec Ideal S8x1024x3584 .bf16) (ix3 e d K) := by
  unfold iblk
  refine congrArg (m ((c : Thread nD τ).loc main_arg4) : FVec Ideal S8x1024x3584 .bf16) (funext fun a => Fin.ext ?_)
  match a with
  | ⟨0, _⟩ =>
    show (tb.1.at 0 (Rect.unit (s := S72) ![(Scalar.indexCast (BitVec.ofNat 32 ((crd tb t) 0).val)).toNat] S1.size (k0_off1_inb (crd tb t))) numel1_S1 : BitVec 32).toNat * 1 + 1 * 0 = e.val
    rw [expert_tab tb t hlt, he]; omega
  | ⟨1, _⟩ =>
    show 0 * 1024 + 1 * d.val = d.val
    omega
  | ⟨2, _⟩ =>
    show (BitVec.ofNat 32 ((crd tb t) 1).val).toNat * 896 + 1 * k.val = K.val
    rw [chunk_word, hK]; omega

/-- The last product's. -/
theorem wd_blk (c : Dev nD) (t : Fin (cfgA tb).N) (hlt : t.val / 4 < 72) (e : Fin 8) (he : (tab0 tb (ix1 ⟨t.val / 4, hlt⟩) : BitVec 32).toNat = e.val)
    (k : Fin 896) (l : Fin 1024) (K : Fin 3584) (hK : K.val = t.val % 4 * 896 + k.val) :
    (iblk tb m ρ c 3 t : FVec Ideal S1x896x1024 .bf16) (ix3 0 k l) = (m ((c : Thread nD τ).loc main_arg5) : FVec Ideal S8x3584x1024 .bf16) (ix3 e K l) := by
  unfold iblk
  refine congrArg (m ((c : Thread nD τ).loc main_arg5) : FVec Ideal S8x3584x1024 .bf16) (funext fun a => Fin.ext ?_)
  match a with
  | ⟨0, _⟩ =>
    show (tb.1.at 0 (Rect.unit (s := S72) ![(Scalar.indexCast (BitVec.ofNat 32 ((crd tb t) 0).val)).toNat] S1.size (k0_off1_inb (crd tb t))) numel1_S1 : BitVec 32).toNat * 1 + 1 * 0 = e.val
    rw [expert_tab tb t hlt, he]; omega
  | ⟨1, _⟩ =>
    show (BitVec.ofNat 32 ((crd tb t) 1).val).toNat * 896 + 1 * k.val = K.val
    rw [chunk_word, hK]; omega
  | ⟨2, _⟩ =>
    show 0 * 1024 + 1 * l.val = l.val
    omega

/-- A point's share of its block, in the blocks it reads. -/
abbrev share (c : Dev nD) (t : Fin (cfgA tb).N) (r : Fin 512) (l : Fin 1024) : EReal :=
  part (iblk tb m ρ c 0 t) (iblk tb m ρ c 1 t) (iblk tb m ρ c 2 t) (iblk tb m ρ c 3 t) r l

/-- An element's hidden lanes in the arguments. -/
abbrev lane (c : Dev nD) (R : Fin 36864) (e : Fin 8) (l : Fin 1024) (K : Fin 3584) : EReal :=
  term (m ((c : Thread nD τ).loc main_arg2)) (m ((c : Thread nD τ).loc main_arg3)) (m ((c : Thread nD τ).loc main_arg4)) (m ((c : Thread nD τ).loc main_arg5)) R e K l

include b1 in
theorem share_eq (c : Dev nD) (t : Fin (cfgA tb).N) (hu : P0_0 tb t) (hlt : t.val / 4 < 72) (e : Fin 8) (he : (tab0 tb (ix1 ⟨t.val / 4, hlt⟩) : BitVec 32).toNat = e.val)
    (r : Fin 512) (l : Fin 1024) (R : Fin 36864) (hR : R.val = t.val / 4 * 512 + r.val) :
    share tb m ρ c t r l = ∑ k : Fin 896, lane m c R e l ⟨t.val % 4 * 896 + k.val, by omega⟩ := by
  unfold share part lane term
  refine Finset.sum_congr rfl fun k _ => ?_
  have hx (d : Fin 1024) := x_blk tb m ρ b1 c t hu r d R hR
  have hg (d : Fin 1024) := wg_blk tb m ρ c t hlt e he d k ⟨t.val % 4 * 896 + k.val, by omega⟩ rfl
  have hq (d : Fin 1024) := wu_blk tb m ρ c t hlt e he d k ⟨t.val % 4 * 896 + k.val, by omega⟩ rfl
  have hd := wd_blk tb m ρ c t hlt e he k l ⟨t.val % 4 * 896 + k.val, by omega⟩ rfl
  have key (X : FVec Ideal S36864x1024 .bf16) (B0 : FVec Ideal S512x1024 .bf16) (B : FVec Ideal S1x1024x896 .bf16) (W : FVec Ideal S8x1024x3584 .bf16) (K : Fin 3584)
      (hx : ∀ d : Fin 1024, B0 (ix2 r d) = X (ix2 R d))
      (hg : ∀ d : Fin 1024, B (ix3 0 d k) = W (ix3 e d K)) :
      ∑ d : Fin 1024, (B0 (ix2 r d) : EReal) * B (ix3 0 d k) = ∑ d : Fin 1024, X (ix2 R d) * W (ix3 e d K) :=
    Finset.sum_congr rfl fun d _ => congrArg₂ (· * ·) (hx d) (hg d)
  have eg := key _ _ _ _ _ hx hg
  have eu := key _ _ _ _ _ hx hq
  rw [eg, eu]
  exact congrArg (fun z : EReal => _ * z) hd

/-! ## The run of a block's four points -/

theorem used_of (s t : Fin (cfgA tb).N) (h : s.val / 4 = t.val / 4) (hw : (word tb).toNat < 2 ^ 31) (hu : P0_0 tb t) : P0_0 tb s := by
  have e : ((crd tb s) 0).val = ((crd tb t) 0).val := ((place s).1.trans h).trans (place t).1.symm
  exact (used_iff _ _ hw).2 (e ▸ (used_iff _ _ hw).1 hu)

theorem first_at (t : Fin (cfgA tb).N) : P0_1 tb t ↔ t.val % 4 = 0 :=
  (first_iff (crd tb t)).trans (by rw [show ((crd tb t) 1).val = t.val % 4 from (place t).2])

theorem last_at (t : Fin (cfgA tb).N) : P0_2 tb t ↔ t.val % 4 = 3 :=
  (last_iff (crd tb t)).trans (by rw [show ((crd tb t) 1).val = t.val % 4 from (place t).2])

theorem prev_eq (c : Dev nD) (s t : Fin (cfgA tb).N) (h : t.val = s.val + 1) : prev0 tb m ρ c t = traj0 tb m ρ c s.val s.isLt := by
  obtain ⟨s, hs⟩ := s
  obtain ⟨t, ht⟩ := t
  obtain rfl : t = s + 1 := h
  unfold prev0
  exact dif_neg (Nat.succ_ne_zero s)

theorem scratch_first (c : Dev nD) (t : Fin (cfgA tb).N) (hu : P0_0 tb t) (h : t.val % 4 = 0) (r : Fin 512) (l : Fin 1024) :
    (blk c (traj0 tb m ρ c t.val t.isLt).2 (ix2 r l) : EReal) = share tb m ρ c t r l := by
  rw [traj0_eq, scratch_A tb m ρ c t _ hu ((first_at tb t).2 h)]
  exact pay2_apply _ _ _ _ r l

theorem scratch_next (c : Dev nD) (s t : Fin (cfgA tb).N) (hs : t.val = s.val + 1) (hu : P0_0 tb t) (h0 : t.val % 4 ≠ 0) (h3 : t.val % 4 ≠ 3) (r : Fin 512) (l : Fin 1024) :
    (blk c (traj0 tb m ρ c t.val t.isLt).2 (ix2 r l) : EReal) = blk c (traj0 tb m ρ c s.val s.isLt).2 (ix2 r l) + share tb m ρ c t r l := by
  rw [traj0_eq, scratch_B tb m ρ c t _ hu (mt (first_at tb t).1 h0) (mt (last_at tb t).1 h3), prev_eq tb m ρ c s t hs]
  exact pay3_apply _ _ _ _ _ r l

theorem out_last (c : Dev nD) (s t : Fin (cfgA tb).N) (hs : t.val = s.val + 1) (hu : P0_0 tb t) (h3 : t.val % 4 = 3) (r : Fin 512) (l : Fin 1024) :
    ((traj0 tb m ρ c t.val t.isLt).1 (ix2 r l) : EReal) = blk c (traj0 tb m ρ c s.val s.isLt).2 (ix2 r l) + share tb m ρ c t r l := by
  rw [traj0_eq, out_C tb m ρ c t _ hu (mt (first_at tb t).1 (by omega)) ((last_at tb t).2 h3), prev_eq tb m ρ c s t hs]
  exact pay3_apply _ _ _ _ _ r l

theorem out_skip (c : Dev nD) (t : Fin (cfgA tb).N) (hu : ¬P0_0 tb t) (h3 : t.val % 4 = 3) (r : Fin 512) (l : Fin 1024) :
    ((traj0 tb m ρ c t.val t.isLt).1 (ix2 r l) : EReal) = 0 := by
  rw [traj0_eq, out_E tb m ρ c t _ hu ((skip_iff _ _).2 ⟨hu, (place t).2.trans h3⟩)]
  pointwise [k0_pay4]

/-- A sum over the hidden lanes, by the four points. -/
theorem sum_quarters (f : Fin 3584 → EReal) : ∑ k, f k
    = ((∑ k : Fin 896, f ⟨0 * 896 + k.val, by omega⟩ + ∑ k : Fin 896, f ⟨1 * 896 + k.val, by omega⟩) + ∑ k : Fin 896, f ⟨2 * 896 + k.val, by omega⟩) + ∑ k : Fin 896, f ⟨3 * 896 + k.val, by omega⟩ := by
  have e1 := Fin.sum_univ_add (a := 2688) (b := 896) f
  have e2 := Fin.sum_univ_add (a := 1792) (b := 896) fun k => f (Fin.castAdd 896 k)
  have e3 := Fin.sum_univ_add (a := 896) (b := 896) fun k => f (Fin.castAdd 896 (Fin.castAdd 896 k))
  refine e1.trans ?_
  rw [e2, e3]
  refine congrArg₂ (· + ·) (congrArg₂ (· + ·) (congrArg₂ (· + ·) ?_ ?_) ?_) ?_ <;>
    exact Finset.sum_congr rfl fun k _ => congrArg f (Fin.ext (by simp; try omega))

include b1 in
/-- The output block of a block in use. -/
theorem out_used (c : Dev nD) (t : Fin (cfgA tb).N) (hu : P0_0 tb t) (h3 : t.val % 4 = 3) (hlt : t.val / 4 < 72) (e : Fin 8) (he : (tab0 tb (ix1 ⟨t.val / 4, hlt⟩) : BitVec 32).toNat = e.val)
    (r : Fin 512) (l : Fin 1024) (R : Fin 36864) (hR : R.val = t.val / 4 * 512 + r.val) :
    ((traj0 tb m ρ c t.val t.isLt).1 (ix2 r l) : EReal) = ∑ K : Fin 3584, lane m c R e l K := by
  have hw : (word tb).toNat < 2 ^ 31 := by rw [word_tab]; exact (b1 _).2
  obtain ⟨n, hn⟩ := t
  obtain ⟨i, rfl⟩ : ∃ i, n = i * 4 + 3 := ⟨n / 4, by dsimp only at h3; omega⟩
  have ei : (i * 4 + 3) / 4 = i := by omega
  have sh (j : ℕ) (hj : j < 4) (hn' : i * 4 + j < (cfgA tb).N) : P0_0 tb ⟨i * 4 + j, hn'⟩ ∧ share tb m ρ c ⟨i * 4 + j, hn'⟩ r l = ∑ k : Fin 896, lane m c R e l ⟨j * 896 + k.val, by omega⟩ := by
    have hd : (i * 4 + j) / 4 = i := by omega
    have hu' := used_of tb ⟨i * 4 + j, hn'⟩ ⟨i * 4 + 3, hn⟩ (by show (i * 4 + j) / 4 = (i * 4 + 3) / 4; omega) hw hu
    refine ⟨hu', ?_⟩
    refine (share_eq tb m ρ b1 c ⟨i * 4 + j, hn'⟩ hu' (by show (i * 4 + j) / 4 < 72; rw [hd, ← ei]; exact hlt) e ?_ r l R (by show R.val = (i * 4 + j) / 4 * 512 + r.val; rw [hd, hR]; show (i * 4 + 3) / 4 * 512 + r.val = _; rw [ei])).trans ?_
    · refine Eq.trans (congrArg (fun z : Fin 72 => (tab0 tb (ix1 z) : BitVec 32).toNat) (Fin.ext ?_)) he
      show (i * 4 + j) / 4 = (i * 4 + 3) / 4
      omega
    · refine Finset.sum_congr rfl fun k _ => congrArg _ (Fin.ext ?_)
      show (i * 4 + j) % 4 * 896 + k.val = j * 896 + k.val
      rw [show (i * 4 + j) % 4 = j by omega]
  have n0 : i * 4 + 0 < (cfgA tb).N := by omega
  have n1 : i * 4 + 1 < (cfgA tb).N := by omega
  have n2 : i * 4 + 2 < (cfgA tb).N := by omega
  refine (out_last tb m ρ c ⟨i * 4 + 2, n2⟩ ⟨i * 4 + 3, hn⟩ rfl hu h3 r l).trans ?_
  rw [scratch_next tb m ρ c ⟨i * 4 + 1, n1⟩ ⟨i * 4 + 2, n2⟩ rfl (sh 2 (by omega) n2).1 (by show (i * 4 + 2) % 4 ≠ 0; omega) (by show (i * 4 + 2) % 4 ≠ 3; omega) r l,
    scratch_next tb m ρ c ⟨i * 4 + 0, n0⟩ ⟨i * 4 + 1, n1⟩ rfl (sh 1 (by omega) n1).1 (by show (i * 4 + 1) % 4 ≠ 0; omega) (by show (i * 4 + 1) % 4 ≠ 3; omega) r l,
    scratch_first tb m ρ c ⟨i * 4 + 0, n0⟩ (sh 0 (by omega) n0).1 (by show (i * 4 + 0) % 4 = 0; omega) r l,
    (sh 0 (by omega) n0).2, (sh 1 (by omega) n1).2, (sh 2 (by omega) n2).2, (sh 3 (by omega) hn).2]
  exact (sum_quarters _).symm

include hp b0 b1 in
/-- The array after the run: the reference's term over the arguments. -/
theorem final (c : Dev nD) : (dats tb m ρ 0 c).arrAt 4 (cfgA tb).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hw : (word tb).toNat < 2 ^ 31 := by rw [word_tab]; exact (b1 _).2
  have hN (t : Fin (cfgA tb).N) : t.val < 288 := (by decide +kernel : grid0.N = 288) ▸ t.isLt
  refine (dats tb m ρ 0 c).arrAt_eq_of_emb 4 _ (fun t hf (y : S512x1024.Idx) => ?_) fun (i : S36864x1024.Idx) => ?_
  · have h3 : t.val % 4 = 3 := by
      rw [flush_eq] at hf
      exact (place t).2.symm.trans (of_decide_eq_true hf)
    have ht := hN t
    have hlt : t.val / 4 < 72 := by omega
    have hr : (y 0).val < 512 := (y 0).isLt
    let R : Fin 36864 := ⟨t.val / 4 * 512 + (y 0).val, by omega⟩
    have eR : R.val / 512 = t.val / 4 := by show (t.val / 4 * 512 + (y 0).val) / 512 = _; omega
    have ey : ((((cfgA tb).win 4).blk t).view.emb y : S36864x1024.Idx) = ix2 R (y 1) := by
      funext a
      refine Fin.ext ?_
      match a with
      | ⟨0, _⟩ =>
        show (BitVec.ofNat 32 ((crd tb t) 0).val).toNat * 512 + 1 * (y 0).val = t.val / 4 * 512 + (y 0).val
        rw [show ((crd tb t) 0).val = t.val / 4 from (place t).1, BitVec.toNat_ofNat]
        omega
      | ⟨1, _⟩ =>
        show 0 * 1024 + 1 * (y 1).val = (y 1).val
        omega
    have yy : y = ix2 (y 0) (y 1) := by
      funext a
      match a with
      | ⟨0, _⟩ => rfl
      | ⟨1, _⟩ => rfl
    let e : Fin 8 := ⟨(tab0 tb (ix1 ⟨t.val / 4, hlt⟩) : BitVec 32).toNat, b0 _⟩
    have hE : (m ((c : Thread nD τ).loc main_arg0) : IVec S72 32) = tab0 tb := hp.1 c
    have hB : (m ((c : Thread nD τ).loc main_arg1) : IVec S1 32) = tab1 tb := hp.2.1 c
    rw [ey]
    refine Eq.trans ?_ (REF_apply _ _ _ _ _ _ R (y 1) e ?_ ?_).symm
    · have eout : ((traj0 tb m ρ c t.val t.isLt).1 (ix2 (y 0) (y 1)) : EReal) = if R.val / 512 < ((m ((c : Thread nD τ).loc main_arg1) : IVec S1 32) (ix1 0)).toNat then ∑ K : Fin 3584, lane m c R e (y 1) K else 0 := by
        have en : ((m ((c : Thread nD τ).loc main_arg1) : IVec S1 32) (ix1 0)).toNat = (word tb).toNat := by rw [hB, word_tab]
        rw [eR, en]
        by_cases hu : P0_0 tb t
        · rw [if_pos ((place t).1 ▸ (used_iff _ _ hw).1 hu)]
          exact out_used tb m ρ b1 c t hu h3 hlt e rfl (y 0) (y 1) R rfl
        · rw [if_neg fun h => hu ((used_iff _ _ hw).2 (lt_of_eq_of_lt (place t).1 h))]
          exact out_skip tb m ρ c t hu h3 (y 0) (y 1)
      refine Eq.trans ?_ eout
      rw [after0_4]
      exact congrArg (traj0 tb m ρ c t.val t.isLt).1 yy
    · rw [hE]
      exact congrArg (fun z : Fin 72 => (tab0 tb (ix1 z) : BitVec 32).toNat) (Fin.ext eR)
    · rw [hB]
      exact (b1 _).2
  · have h0 : (i 0).val < 36864 := (i 0).isLt
    have h1 : (i 1).val < 1024 := (i 1).isLt
    have hb : 4 * ((i 0).val / 512) + 3 < (cfgA tb).N := lt_of_lt_of_eq (show _ < 288 by omega) (by decide +kernel : 288 = grid0.N)
    let t : Fin (cfgA tb).N := ⟨4 * ((i 0).val / 512) + 3, hb⟩
    refine ⟨t, ?_, ?_⟩
    · rw [flush_eq]
      exact decide_eq_true ((place t).2.trans (show (4 * ((i 0).val / 512) + 3) % 4 = 3 by omega))
    · refine (((cfgA tb).win 4).emb_mem_blk_iff t i).2 fun (a : Fin 2) => ?_
      match a with
      | ⟨0, _⟩ =>
        show (BitVec.ofNat 32 ((crd tb t) 0).val).toNat * 512 ≤ (i 0).val ∧ (i 0).val < (BitVec.ofNat 32 ((crd tb t) 0).val).toNat * 512 + 512
        rw [show ((crd tb t) 0).val = (4 * ((i 0).val / 512) + 3) / 4 from (place t).1, BitVec.toNat_ofNat]
        omega
      | ⟨1, _⟩ =>
        show 0 * 1024 ≤ (i 1).val ∧ (i 1).val < 0 * 1024 + 1024
        omega

/-- The kernel's results are the reference's. -/
theorem algebraic : Cert.algebraic_MoeIdeal_MoeRefIdeal := by
  intro m g m' g' hpre hagree
  obtain ⟨tb, hp⟩ := exists_held m hpre
  have b := words m hpre 0
  have b0 (x : S72.Idx) : (tab0 tb x : BitVec 32).toNat < 8 := by rw [← hp.1 0]; exact b.1 x
  have b1 (x : S1.Idx) : 1 ≤ (tab1 tb x : BitVec 32).toNat ∧ (tab1 tb x : BitVec 32).toNat < 2 ^ 31 := by rw [← hp.2.1 0]; exact b.2 x
  refine ⟨fun c => (dats tb m g 0 c).arrAt 4 (cfgA tb).N, (θ_run _ _ _).mono ?_ (θ_run_and (run_main tb m g hp) (unchanged tb m g hp)),
    (θ_run _ _ _).mono ?_ (Cert.MoeRefIdeal.Value.run m' g')⟩
  · exact fun r h c => ⟨(h.1 c).1 4, h.2 c⟩
  · intro r h c
    obtain ⟨h, hk⟩ := h c
    refine ⟨h.trans ?_, hk⟩
    obtain ⟨e0, e1, e2, e3, e4, e5⟩ := hagree c
    rw [e0, e1, e2, e3, e4, e5]
    exact (final tb m g hp b0 b1 c).symm

end Cert.Proof.Moe.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeRefIdeal
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjRefIdeal
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.Pre_finite
public import proofs.«01_k».proof.Proof.Gen.Pre_routed
public import proofs.«01_k».proof.Proof.Gen.SwigluIdeal.Value
public import proofs.«01_k».proof.Proof.Gen.InProjIdeal.Value
public import proofs.«01_k».proof.Proof.Gen.KvProjIdeal.Value
public import proofs.«01_k».proof.Proof.Gen.QProjIdeal.Value
public import proofs.«01_k».proof.Proof.Gen.OutProjIdeal.Value
public import proofs.«01_k».proof.Proof.Gen.ReferenceIdeal.Run
public import proofs.«01_k».proof.Proof.Gen.MoeRefIdeal.Run
public import proofs.«01_k».proof.Proof.Gen.SwigluRefIdeal.Run
public import proofs.«01_k».proof.Proof.Gen.InProjRefIdeal.Run
public import proofs.«01_k».proof.Proof.Gen.KvProjRefIdeal.Run
public import proofs.«01_k».proof.Proof.Gen.QProjRefIdeal.Run
public import proofs.«01_k».proof.Proof.Gen.OutProjRefIdeal.Run
public import proofs.«01_k».proof.Proof.Gen.RouterRefIdeal.Run
public import proofs.«01_k».proof.Proof.Gen.FinalRefIdeal.Run
public import proofs.«01_k».proof.Proof.Stick.Kernel.Frame
public import proofs.«01_k».proof.Proof.Stick.Value
public import proofs.«01_k».proof.Proof.Layer.Swiglu
public import proofs.«01_k».proof.Proof.Layer.InProj
public import proofs.«01_k».proof.Proof.Layer.KvProj
public import proofs.«01_k».proof.Proof.Layer.QProj
public import proofs.«01_k».proof.Proof.Layer.OutProj
public import proofs.«01_k».proof.Proof.Layer.Router
public import proofs.«01_k».proof.Proof.Layer.Final
public import proofs.«01_k».proof.Proof.Moe.Moe.Tables
public import proofs.«01_k».proof.Proof.Moe.Value
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxRecDepth 16384

/-- The reference `ReferenceIdeal` runs, keeps its arguments and leaves every counter at zero. -/
theorem frame_Reference : Cert.quiescent_ReferenceIdeal := by
  intro m g _
  refine (θ_run _ _ _).mono (fun r h => ⟨h, sem_eq_zero_of_no_sems (by decide) r.2⟩) ?_
  hlo_run

/-- The reference `MoeRefIdeal` runs, keeps its arguments and leaves every counter at zero. -/
theorem frame_MoeRef : Cert.quiescent_MoeRefIdeal := by
  intro m g _
  refine (θ_run _ _ _).mono (fun r h => ⟨h, sem_eq_zero_of_no_sems (by decide) r.2⟩) ?_
  hlo_run

/-- The reference `SwigluRefIdeal` runs, keeps its arguments and leaves every counter at zero. -/
theorem frame_SwigluRef : Cert.quiescent_SwigluRefIdeal := by
  intro m g _
  refine (θ_run _ _ _).mono (fun r h => ⟨h, sem_eq_zero_of_no_sems (by decide) r.2⟩) ?_
  hlo_run

/-- The reference `InProjRefIdeal` runs, keeps its arguments and leaves every counter at zero. -/
theorem frame_InProjRef : Cert.quiescent_InProjRefIdeal := by
  intro m g _
  refine (θ_run _ _ _).mono (fun r h => ⟨h, sem_eq_zero_of_no_sems (by decide) r.2⟩) ?_
  hlo_run

/-- The reference `KvProjRefIdeal` runs, keeps its arguments and leaves every counter at zero. -/
theorem frame_KvProjRef : Cert.quiescent_KvProjRefIdeal := by
  intro m g _
  refine (θ_run _ _ _).mono (fun r h => ⟨h, sem_eq_zero_of_no_sems (by decide) r.2⟩) ?_
  hlo_run

/-- The reference `QProjRefIdeal` runs, keeps its arguments and leaves every counter at zero. -/
theorem frame_QProjRef : Cert.quiescent_QProjRefIdeal := by
  intro m g _
  refine (θ_run _ _ _).mono (fun r h => ⟨h, sem_eq_zero_of_no_sems (by decide) r.2⟩) ?_
  hlo_run

/-- The reference `OutProjRefIdeal` runs, keeps its arguments and leaves every counter at zero. -/
theorem frame_OutProjRef : Cert.quiescent_OutProjRefIdeal := by
  intro m g _
  refine (θ_run _ _ _).mono (fun r h => ⟨h, sem_eq_zero_of_no_sems (by decide) r.2⟩) ?_
  hlo_run

/-- The reference `RouterRefIdeal` runs, keeps its arguments and leaves every counter at zero. -/
theorem frame_RouterRef : Cert.quiescent_RouterRefIdeal := by
  intro m g _
  refine (θ_run _ _ _).mono (fun r h => ⟨h, sem_eq_zero_of_no_sems (by decide) r.2⟩) ?_
  hlo_run

/-- The reference `FinalRefIdeal` runs, keeps its arguments and leaves every counter at zero. -/
theorem frame_FinalRef : Cert.quiescent_FinalRefIdeal := by
  intro m g _
  refine (θ_run _ _ _).mono (fun r h => ⟨h, sem_eq_zero_of_no_sems (by decide) r.2⟩) ?_
  hlo_run

/-- Each named constant stands for the value the idealized attention computes with. -/
theorem preserves : Cert.preserves_Kernel_KernelIdeal :=
  ⟨IdealRules.named_const.statement _ _ _ _ _ rfl, IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts, Cert.Moe.Gen.facts, Cert.MoeIdeal.Gen.facts, Cert.MoeRefIdeal.Gen.facts, Cert.Swiglu.Gen.facts, Cert.SwigluIdeal.Gen.facts, Cert.SwigluRefIdeal.Gen.facts, Cert.InProj.Gen.facts, Cert.InProjIdeal.Gen.facts, Cert.InProjRefIdeal.Gen.facts, Cert.KvProj.Gen.facts, Cert.KvProjIdeal.Gen.facts, Cert.KvProjRefIdeal.Gen.facts, Cert.QProj.Gen.facts, Cert.QProjIdeal.Gen.facts, Cert.QProjRefIdeal.Gen.facts, Cert.OutProj.Gen.facts, Cert.OutProjIdeal.Gen.facts, Cert.OutProjRefIdeal.Gen.facts, Cert.Router.Gen.facts, Cert.RouterIdeal.Gen.facts, Cert.RouterRefIdeal.Gen.facts, Cert.Final.Gen.facts, Cert.FinalIdeal.Gen.facts, Cert.FinalRefIdeal.Gen.facts, Cert.Pre_finite.Gen.facts, Cert.Pre_routed.Gen.facts, fun m g _ => Stick.Kernel.frame m g,
  fun m g _ => Stick.KernelIdeal.frame m g,
  fun m g _ => Stick.KernelIdeal.frame m g,
  frame_Reference,
  fun m g _ => frame_Reference m g trivial,
  fun m g h => Moe.Moe.frame_routed m h g,
  fun m g h => Moe.MoeIdeal.frame_routed m h g,
  frame_MoeRef,
  fun m g _ => frame_MoeRef m g trivial,
  fun m g _ => Cert.Swiglu.Gen.frame m g,
  fun m g _ => Cert.SwigluIdeal.Gen.frame m g,
  frame_SwigluRef,
  fun m g _ => Cert.InProj.Gen.frame m g,
  fun m g _ => Cert.InProjIdeal.Gen.frame m g,
  frame_InProjRef,
  fun m g _ => Cert.KvProj.Gen.frame m g,
  fun m g _ => Cert.KvProjIdeal.Gen.frame m g,
  frame_KvProjRef,
  fun m g _ => Cert.QProj.Gen.frame m g,
  fun m g _ => Cert.QProjIdeal.Gen.frame m g,
  frame_QProjRef,
  fun m g _ => Cert.OutProj.Gen.frame m g,
  fun m g _ => Cert.OutProjIdeal.Gen.frame m g,
  frame_OutProjRef,
  fun m g _ => Cert.Router.Gen.frame m g,
  fun m g _ => Cert.RouterIdeal.Gen.frame m g,
  frame_RouterRef,
  fun m g _ => Cert.Final.Gen.frame m g,
  fun m g _ => Cert.FinalIdeal.Gen.frame m g,
  frame_FinalRef,
  preserves,
  Stick.algebraic,
  trivial,
  Moe.Value.algebraic,
  trivial,
  Swiglu.algebraic,
  trivial,
  InProj.algebraic,
  trivial,
  KvProj.algebraic,
  trivial,
  QProj.algebraic,
  trivial,
  OutProj.algebraic,
  trivial,
  Router.algebraic,
  trivial,
  Final.algebraic⟩

end Cert.Proof

end
